-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x17920 : Shape := ⟨3, ![8, 1, 17920]⟩
abbrev S17920x640 : Shape := ⟨2, ![17920, 640]⟩
abbrev S140x640 : Shape := ⟨2, ![140, 640]⟩
abbrev S140x5120 : Shape := ⟨2, ![140, 5120]⟩
abbrev S8 : Shape := ⟨1, ![8]⟩
abbrev S8x17920 : Shape := ⟨2, ![8, 17920]⟩
abbrev S140x640x8 : Shape := ⟨3, ![140, 640, 8]⟩
abbrev S_ : Shape := ⟨0, ![]⟩
abbrev S8x1 : Shape := ⟨2, ![8, 1]⟩
abbrev S140x8x640 : Shape := ⟨3, ![140, 8, 640]⟩
abbrev S140x16x640 : Shape := ⟨3, ![140, 16, 640]⟩
abbrev S2240x640 : Shape := ⟨2, ![2240, 640]⟩
abbrev S10x14x640 : Shape := ⟨3, ![10, 14, 640]⟩
abbrev S64x640 : Shape := ⟨2, ![64, 640]⟩
abbrev S8x1792 : Shape := ⟨2, ![8, 1792]⟩
abbrev S1792x640 : Shape := ⟨2, ![1792, 640]⟩
abbrev S1x14x640 : Shape := ⟨3, ![1, 14, 640]⟩
abbrev S224x640 : Shape := ⟨2, ![224, 640]⟩
abbrev S128x1024 : Shape := ⟨2, ![128, 1024]⟩
abbrev S64x1024 : Shape := ⟨2, ![64, 1024]⟩
abbrev S8x128 : Shape := ⟨2, ![8, 128]⟩
abbrev S8x1024 : Shape := ⟨2, ![8, 1024]⟩
abbrev S128x640 : Shape := ⟨2, ![128, 640]⟩
abbrev S128x1x640 : Shape := ⟨3, ![128, 1, 640]⟩
abbrev S128x8x640 : Shape := ⟨3, ![128, 8, 640]⟩
abbrev S1024x640 : Shape := ⟨2, ![1024, 640]⟩
abbrev S1x1x640 : Shape := ⟨3, ![1, 1, 640]⟩
abbrev S1x640 : Shape := ⟨2, ![1, 640]⟩
abbrev S8x640 : Shape := ⟨2, ![8, 640]⟩
abbrev S8x1x640 : Shape := ⟨3, ![8, 1, 640]⟩
abbrev S8x8x640 : Shape := ⟨3, ![8, 8, 640]⟩
abbrev S16x640 : Shape := ⟨2, ![16, 640]⟩
abbrev S8x640x8 : Shape := ⟨3, ![8, 640, 8]⟩
abbrev S8x1x5120 : Shape := ⟨3, ![8, 1, 5120]⟩

abbrev nBuf : Space → Nat
  | .hbm => 34
  | .vmem => 10
  | .smem => 0
  | _ => 0

abbrev bufTy : (tb : Table) → Fin (tcTables nBuf tb) → BufTy
  | .hbm, ⟨0, _⟩ => ⟨S8x1x17920, .bf16⟩
  | .hbm, ⟨1, _⟩ => ⟨S17920x640, .i32⟩
  | .hbm, ⟨2, _⟩ => ⟨S140x640, .i32⟩
  | .hbm, ⟨3, _⟩ => ⟨S140x5120, .bf16⟩
  | .hbm, ⟨4, _⟩ => ⟨S8, .i32⟩
  | .hbm, ⟨5, _⟩ => ⟨S8, .i32⟩
  | .hbm, ⟨6, _⟩ => ⟨S8x17920, .bf16⟩
  | .hbm, ⟨7, _⟩ => ⟨S140x640x8, .bf16⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S140x640x8, .bf16⟩
  | .hbm, ⟨17, _⟩ => ⟨S140x8x640, .bf16⟩
  | .hbm, ⟨18, _⟩ => ⟨S140x16x640, .bf16⟩
  | .hbm, ⟨19, _⟩ => ⟨S2240x640, .bf16⟩
  | .hbm, ⟨20, _⟩ => ⟨S10x14x640, .i32⟩
  | .hbm, ⟨21, _⟩ => ⟨S64x640, .bf16⟩
  | .hbm, ⟨22, _⟩ => ⟨S8x8x640, .bf16⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S8x1, .i32⟩
  | .hbm, ⟨31, _⟩ => ⟨S8x8x640, .bf16⟩
  | .hbm, ⟨32, _⟩ => ⟨S8x640x8, .bf16⟩
  | .hbm, ⟨33, _⟩ => ⟨S8x1x5120, .bf16⟩
  | .local _ .vmem, ⟨0, _⟩ => ⟨S8x1792, .bf16⟩
  | .local _ .vmem, ⟨1, _⟩ => ⟨S8x1792, .bf16⟩
  | .local _ .vmem, ⟨2, _⟩ => ⟨S1792x640, .i32⟩
  | .local _ .vmem, ⟨3, _⟩ => ⟨S1792x640, .i32⟩
  | .local _ .vmem, ⟨4, _⟩ => ⟨S1x14x640, .i32⟩
  | .local _ .vmem, ⟨5, _⟩ => ⟨S1x14x640, .i32⟩
  | .local _ .vmem, ⟨6, _⟩ => ⟨S224x640, .bf16⟩
  | .local _ .vmem, ⟨7, _⟩ => ⟨S224x640, .bf16⟩
  | .local _ .vmem, ⟨8, _⟩ => ⟨S64x640, .bf16⟩
  | .local _ .vmem, ⟨9, _⟩ => ⟨S64x640, .f32⟩
  | _, _ => ⟨S8x1x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v724 : BitVec 1 := Scalar.cmpi .eq arg0 c9_i32
  let v725 : BitVec 32 := Scalar.extui v724
  let c0_i32_232 : BitVec 32 := 0#32
  let v726 : BitVec 1 := Scalar.cmpi .ne v725 c0_i32_232
  v726

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x14x640 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x1x17920 : Shape := ⟨3, ![8, 1, 17920]⟩
abbrev S17920x640 : Shape := ⟨2, ![17920, 640]⟩
abbrev S140x640 : Shape := ⟨2, ![140, 640]⟩
abbrev S140x5120 : Shape := ⟨2, ![140, 5120]⟩
abbrev S_ : Shape := ⟨0, ![]⟩
abbrev S140x128x640 : Shape := ⟨3, ![140, 128, 640]⟩
abbrev S140x1x640 : Shape := ⟨3, ![140, 1, 640]⟩
abbrev S8x1x640 : Shape := ⟨3, ![8, 1, 640]⟩
abbrev S8x1x640x1 : Shape := ⟨4, ![8, 1, 640, 1]⟩
abbrev S8x1x640x8 : Shape := ⟨4, ![8, 1, 640, 8]⟩
abbrev S8x1x5120 : Shape := ⟨3, ![8, 1, 5120]⟩

abbrev nBuf : Space → Nat
  | .hbm => 207
  | .vmem => 0
  | .smem => 0
  | _ => 0

abbrev hbmTy0_0 (i : Nat) : BufTy := match i % 128 with
  | 0 => ⟨S8x1x17920, .bf16⟩
  | 1 => ⟨S17920x640, .i32⟩
  | 2 => ⟨S140x640, .i32⟩
  | 3 => ⟨S140x5120, .bf16⟩
  | 4 => ⟨S_, .i32⟩
  | 5 => ⟨S17920x640, .i32⟩
  | 6 => ⟨S17920x640, .i32⟩
  | 7 => ⟨S_, .i32⟩
  | 8 => ⟨S17920x640, .i32⟩
  | 9 => ⟨S17920x640, .i32⟩
  | 10 => ⟨S17920x640, .bf16⟩
  | 11 => ⟨S_, .i32⟩
  | 12 => ⟨S140x640, .i32⟩
  | 13 => ⟨S140x640, .i32⟩
  | 14 => ⟨S_, .i32⟩
  | 15 => ⟨S140x640, .i32⟩
  | 16 => ⟨S140x640, .i32⟩
  | 17 => ⟨S140x640, .bf16⟩
  | 18 => ⟨S140x640, .bf16⟩
  | 19 => ⟨S140x128x640, .bf16⟩
  | 20 => ⟨S140x1x640, .bf16⟩
  | 21 => ⟨S140x128x640, .bf16⟩
  | 22 => ⟨S140x128x640, .bf16⟩
  | 23 => ⟨S140x1x640, .bf16⟩
  | 24 => ⟨S140x128x640, .bf16⟩
  | 25 => ⟨S140x128x640, .bf16⟩
  | 26 => ⟨S17920x640, .bf16⟩
  | 27 => ⟨S8x1x640, .f32⟩
  | 28 => ⟨S_, .i32⟩
  | 29 => ⟨S17920x640, .i32⟩
  | 30 => ⟨S17920x640, .i32⟩
  | 31 => ⟨S_, .i32⟩
  | 32 => ⟨S17920x640, .i32⟩
  | 33 => ⟨S17920x640, .i32⟩
  | 34 => ⟨S17920x640, .bf16⟩
  | 35 => ⟨S_, .i32⟩
  | 36 => ⟨S140x640, .i32⟩
  | 37 => ⟨S140x640, .i32⟩
  | 38 => ⟨S_, .i32⟩
  | 39 => ⟨S140x640, .i32⟩
  | 40 => ⟨S140x640, .i32⟩
  | 41 => ⟨S140x640, .bf16⟩
  | 42 => ⟨S140x640, .bf16⟩
  | 43 => ⟨S140x128x640, .bf16⟩
  | 44 => ⟨S140x1x640, .bf16⟩
  | 45 => ⟨S140x128x640, .bf16⟩
  | 46 => ⟨S140x128x640, .bf16⟩
  | 47 => ⟨S140x1x640, .bf16⟩
  | 48 => ⟨S140x128x640, .bf16⟩
  | 49 => ⟨S140x128x640, .bf16⟩
  | 50 => ⟨S17920x640, .bf16⟩
  | 51 => ⟨S8x1x640, .f32⟩
  | 52 => ⟨S_, .i32⟩
  | 53 => ⟨S17920x640, .i32⟩
  | 54 => ⟨S17920x640, .i32⟩
  | 55 => ⟨S_, .i32⟩
  | 56 => ⟨S17920x640, .i32⟩
  | 57 => ⟨S17920x640, .i32⟩
  | 58 => ⟨S17920x640, .bf16⟩
  | 59 => ⟨S_, .i32⟩
  | 60 => ⟨S140x640, .i32⟩
  | 61 => ⟨S140x640, .i32⟩
  | 62 => ⟨S_, .i32⟩
  | 63 => ⟨S140x640, .i32⟩
  | 64 => ⟨S140x640, .i32⟩
  | 65 => ⟨S140x640, .bf16⟩
  | 66 => ⟨S140x640, .bf16⟩
  | 67 => ⟨S140x128x640, .bf16⟩
  | 68 => ⟨S140x1x640, .bf16⟩
  | 69 => ⟨S140x128x640, .bf16⟩
  | 70 => ⟨S140x128x640, .bf16⟩
  | 71 => ⟨S140x1x640, .bf16⟩
  | 72 => ⟨S140x128x640, .bf16⟩
  | 73 => ⟨S140x128x640, .bf16⟩
  | 74 => ⟨S17920x640, .bf16⟩
  | 75 => ⟨S8x1x640, .f32⟩
  | 76 => ⟨S_, .i32⟩
  | 77 => ⟨S17920x640, .i32⟩
  | 78 => ⟨S17920x640, .i32⟩
  | 79 => ⟨S_, .i32⟩
  | 80 => ⟨S17920x640, .i32⟩
  | 81 => ⟨S17920x640, .i32⟩
  | 82 => ⟨S17920x640, .bf16⟩
  | 83 => ⟨S_, .i32⟩
  | 84 => ⟨S140x640, .i32⟩
  | 85 => ⟨S140x640, .i32⟩
  | 86 => ⟨S_, .i32⟩
  | 87 => ⟨S140x640, .i32⟩
  | 88 => ⟨S140x640, .i32⟩
  | 89 => ⟨S140x640, .bf16⟩
  | 90 => ⟨S140x640, .bf16⟩
  | 91 => ⟨S140x128x640, .bf16⟩
  | 92 => ⟨S140x1x640, .bf16⟩
  | 93 => ⟨S140x128x640, .bf16⟩
  | 94 => ⟨S140x128x640, .bf16⟩
  | 95 => ⟨S140x1x640, .bf16⟩
  | 96 => ⟨S140x128x640, .bf16⟩
  | 97 => ⟨S140x128x640, .bf16⟩
  | 98 => ⟨S17920x640, .bf16⟩
  | 99 => ⟨S8x1x640, .f32⟩
  | 100 => ⟨S_, .i32⟩
  | 101 => ⟨S17920x640, .i32⟩
  | 102 => ⟨S17920x640, .i32⟩
  | 103 => ⟨S_, .i32⟩
  | 104 => ⟨S17920x640, .i32⟩
  | 105 => ⟨S17920x640, .i32⟩
  | 106 => ⟨S17920x640, .bf16⟩
  | 107 => ⟨S_, .i32⟩
  | 108 => ⟨S140x640, .i32⟩
  | 109 => ⟨S140x640, .i32⟩
  | 110 => ⟨S_, .i32⟩
  | 111 => ⟨S140x640, .i32⟩
  | 112 => ⟨S140x640, .i32⟩
  | 113 => ⟨S140x640, .bf16⟩
  | 114 => ⟨S140x640, .bf16⟩
  | 115 => ⟨S140x128x640, .bf16⟩
  | 116 => ⟨S140x1x640, .bf16⟩
  | 117 => ⟨S140x128x640, .bf16⟩
  | 118 => ⟨S140x128x640, .bf16⟩
  | 119 => ⟨S140x1x640, .bf16⟩
  | 120 => ⟨S140x128x640, .bf16⟩
  | 121 => ⟨S140x128x640, .bf16⟩
  | 122 => ⟨S17920x640, .bf16⟩
  | 123 => ⟨S8x1x640, .f32⟩
  | 124 => ⟨S_, .i32⟩
  | 125 => ⟨S17920x640, .i32⟩
  | 126 => ⟨S17920x640, .i32⟩
  | 127 => ⟨S_, .i32⟩
  | _ => ⟨S8x1x17920, .bf16⟩

abbrev hbmTy0_1 (i : Nat) : BufTy := match i % 128 with
  | 0 => ⟨S17920x640, .i32⟩
  | 1 => ⟨S17920x640, .i32⟩
  | 2 => ⟨S17920x640, .bf16⟩
  | 3 => ⟨S_, .i32⟩
  | 4 => ⟨S140x640, .i32⟩
  | 5 => ⟨S140x640, .i32⟩
  | 6 => ⟨S_, .i32⟩
  | 7 => ⟨S140x640, .i32⟩
  | 8 => ⟨S140x640, .i32⟩
  | 9 => ⟨S140x640, .bf16⟩
  | 10 => ⟨S140x640, .bf16⟩
  | 11 => ⟨S140x128x640, .bf16⟩
  | 12 => ⟨S140x1x640, .bf16⟩
  | 13 => ⟨S140x128x640, .bf16⟩
  | 14 => ⟨S140x128x640, .bf16⟩
  | 15 => ⟨S140x1x640, .bf16⟩
  | 16 => ⟨S140x128x640, .bf16⟩
  | 17 => ⟨S140x128x640, .bf16⟩
  | 18 => ⟨S17920x640, .bf16⟩
  | 19 => ⟨S8x1x640, .f32⟩
  | 20 => ⟨S_, .i32⟩
  | 21 => ⟨S17920x640, .i32⟩
  | 22 => ⟨S17920x640, .i32⟩
  | 23 => ⟨S_, .i32⟩
  | 24 => ⟨S17920x640, .i32⟩
  | 25 => ⟨S17920x640, .i32⟩
  | 26 => ⟨S17920x640, .bf16⟩
  | 27 => ⟨S_, .i32⟩
  | 28 => ⟨S140x640, .i32⟩
  | 29 => ⟨S140x640, .i32⟩
  | 30 => ⟨S_, .i32⟩
  | 31 => ⟨S140x640, .i32⟩
  | 32 => ⟨S140x640, .i32⟩
  | 33 => ⟨S140x640, .bf16⟩
  | 34 => ⟨S140x640, .bf16⟩
  | 35 => ⟨S140x128x640, .bf16⟩
  | 36 => ⟨S140x1x640, .bf16⟩
  | 37 => ⟨S140x128x640, .bf16⟩
  | 38 => ⟨S140x128x640, .bf16⟩
  | 39 => ⟨S140x1x640, .bf16⟩
  | 40 => ⟨S140x128x640, .bf16⟩
  | 41 => ⟨S140x128x640, .bf16⟩
  | 42 => ⟨S17920x640, .bf16⟩
  | 43 => ⟨S8x1x640, .f32⟩
  | 44 => ⟨S_, .i32⟩
  | 45 => ⟨S17920x640, .i32⟩
  | 46 => ⟨S17920x640, .i32⟩
  | 47 => ⟨S_, .i32⟩
  | 48 => ⟨S17920x640, .i32⟩
  | 49 => ⟨S17920x640, .i32⟩
  | 50 => ⟨S17920x640, .bf16⟩
  | 51 => ⟨S_, .i32⟩
  | 52 => ⟨S140x640, .i32⟩
  | 53 => ⟨S140x640, .i32⟩
  | 54 => ⟨S_, .i32⟩
  | 55 => ⟨S140x640, .i32⟩
  | 56 => ⟨S140x640, .i32⟩
  | 57 => ⟨S140x640, .bf16⟩
  | 58 => ⟨S140x640, .bf16⟩
  | 59 => ⟨S140x128x640, .bf16⟩
  | 60 => ⟨S140x1x640, .bf16⟩
  | 61 => ⟨S140x128x640, .bf16⟩
  | 62 => ⟨S140x128x640, .bf16⟩
  | 63 => ⟨S140x1x640, .bf16⟩
  | 64 => ⟨S140x128x640, .bf16⟩
  | 65 => ⟨S140x128x640, .bf16⟩
  | 66 => ⟨S17920x640, .bf16⟩
  | 67 => ⟨S8x1x640, .f32⟩
  | 68 => ⟨S8x1x640x1, .f32⟩
  | 69 => ⟨S8x1x640x1, .f32⟩
  | 70 => ⟨S8x1x640x1, .f32⟩
  | 71 => ⟨S8x1x640x1, .f32⟩
  | 72 => ⟨S8x1x640x1, .f32⟩
  | 73 => ⟨S8x1x640x1, .f32⟩
  | 74 => ⟨S8x1x640x1, .f32⟩
  | 75 => ⟨S8x1x640x1, .f32⟩
  | 76 => ⟨S8x1x640x8, .f32⟩
  | 77 => ⟨S8x1x5120, .f32⟩
  | 78 => ⟨S8x1x5120, .bf16⟩
  | _ => ⟨S8x1x17920, .bf16⟩

abbrev hbmTy (i : Nat) : BufTy := match i / 128 with
  | 0 => hbmTy0_0 i
  | 1 => hbmTy0_1 i
  | _ => ⟨S8x1x17920, .bf16⟩

abbrev bufTy : (tb : Table) → Fin (tcTables nBuf tb) → BufTy
  | .hbm, ⟨i, _⟩ => hbmTy i
  | _, _ => ⟨S8x1x17920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_v66 : Ref sig .tc := ⟨.hbm, 85, rfl⟩
abbrev main_c_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_15 : Ref sig .tc := ⟨.hbm, 100, rfl⟩
abbrev main_v80 : Ref sig .tc := ⟨.hbm, 101, rfl⟩
abbrev main_v81 : Ref sig .tc := ⟨.hbm, 102, rfl⟩
abbrev main_c_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_17 : Ref sig .tc := ⟨.hbm, 107, rfl⟩
abbrev main_v85 : Ref sig .tc := ⟨.hbm, 108, rfl⟩
abbrev main_v86 : Ref sig .tc := ⟨.hbm, 109, rfl⟩
abbrev main_c_18 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_19 : Ref sig .tc := ⟨.hbm, 124, rfl⟩
abbrev main_v100 : Ref sig .tc := ⟨.hbm, 125, rfl⟩
abbrev main_v101 : Ref sig .tc := ⟨.hbm, 126, rfl⟩
abbrev main_c_20 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_21 : Ref sig .tc := ⟨.hbm, 131, rfl⟩
abbrev main_v105 : Ref sig .tc := ⟨.hbm, 132, rfl⟩
abbrev main_v106 : Ref sig .tc := ⟨.hbm, 133, rfl⟩
abbrev main_c_22 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_23 : Ref sig .tc := ⟨.hbm, 148, rfl⟩
abbrev main_v120 : Ref sig .tc := ⟨.hbm, 149, rfl⟩
abbrev main_v121 : Ref sig .tc := ⟨.hbm, 150, rfl⟩
abbrev main_c_24 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_c_25 : Ref sig .tc := ⟨.hbm, 155, rfl⟩
abbrev main_v125 : Ref sig .tc := ⟨.hbm, 156, rfl⟩
abbrev main_v126 : Ref sig .tc := ⟨.hbm, 157, rfl⟩
abbrev main_c_26 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_c_27 : Ref sig .tc := ⟨.hbm, 172, rfl⟩
abbrev main_v140 : Ref sig .tc := ⟨.hbm, 173, rfl⟩
abbrev main_v141 : Ref sig .tc := ⟨.hbm, 174, rfl⟩
abbrev main_c_28 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_c_29 : Ref sig .tc := ⟨.hbm, 179, rfl⟩
abbrev main_v145 : Ref sig .tc := ⟨.hbm, 180, rfl⟩
abbrev main_v146 : Ref sig .tc := ⟨.hbm, 181, rfl⟩
abbrev main_c_30 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩

abbrev nD : Nat := 1
abbrev τ : Topo := Topo.v7x

variable {F : FTy → Type} [FloatOps F]
-- ==== Proof.Body.lean ====
/-
  One grid point of the kernel, as a sum of fourteen group products.

  The body reads fourteen groups of 128 columns of `x`.  For each it forms the same product of two matrices, and
  adds the product to a running sum.  This module names the product of one group (`part`), shows that each of the
  fourteen stretches of the body is that product, and writes what a grid point leaves in the accumulator and in
  the output block by it.
-/
module

public import proofs.«01_k».proof.Proof.Gen.KernelIdeal.Frame
public import Idealize.ShloMosaic.Lib.Pointwise
public import Idealize.ShloMosaic.Lib.Pipeline.ValueKit.Tiles

@[expose] public section

set_option maxRecDepth 65536

noncomputable section

namespace Cert.KernelIdeal.Body

open Idealize.ShloMosaic Idealize.ShloMosaic.TcCoe Idealize.ShloMosaic.Tactic
open Idealize.SL Idealize.SL.Sem
open Cert.KernelIdeal.Gen

variable {F : FTy → Type} [FloatOps F]

/-- The mask of the spread `x` block: at row `r`, column `K` it says whether `K % 8 = r / 8`. -/
def keep : IVec S64x1024 1 := k0_pay7 8#32 k0_pay4 k0_pay5 k0_pay6 0#1

/-- The scale rows of one group: its 16 rows, laid below one another 64 times. -/
def scaleRows (s : Vec F S16x640 .bf16) : FVec F S1024x640 .bf16 :=
  concatenate S1024x640 0 (List.ofFn fun _ : Fin 64 => (⟨S16x640, shapeCast S16x640 s shapeCasts_S16x640_S16x640⟩ : (s : Shape) × (s.Idx → F .bf16)))
    concatenates_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S1024x640_d0

/-- The product that one group adds: the spread and masked `x` block times the dequantized weights. -/
def part (x : Vec F S8x128 .bf16) (q : Vec F S128x640 .i32) (z : Vec F S1x1x640 .i32) (s : Vec F S16x640 .bf16) :
    FVec F S64x640 .f32 :=
  matmul dot_S64x1024_S1024x640_S64x640_1_0_0_1_n_n none (k0_pay24 k0_pay3 keep x)
    (mulf (subf (k0_pay25 q) (k0_pay26 z)) (scaleRows s)) (constant S64x640 .f32 0x00000000#32)

section Groups

variable (a y : FVec F S64x640 .f32) (x : Vec F S8x128 .bf16) (q : Vec F S128x640 .i32) (z : Vec F S1x1x640 .i32) (s : Vec F S16x640 .bf16)

/-- Group 0 of the body starts the sum with its product. -/
theorem group0 : k0_pay10 (k0_pay8 k0_pay3 8#32 k0_pay4 k0_pay5 k0_pay6 0#1 x) (k0_pay9 q) (iota .tc S1024x640 32 [0] iota_S1024x640_d0_w32) 7#32 z s =
    part x q z s := rfl

/-- Group 1 of the body adds its product. -/
theorem group1 : k0_pay13 a (k0_pay11 k0_pay3 keep x) (k0_pay12 q) z s =
    addf a (part x q z s) := rfl

/-- Group 2 of the body adds its product. -/
theorem group2 : k0_pay15 a (k0_pay14 k0_pay3 keep x) q z s =
    addf a (part x q z s) := rfl

/-- Group 3 of the body adds its product. -/
theorem group3 : k0_pay18 keep a (k0_pay16 k0_pay3 x) k0_pay17 q z s =
    addf a (part x q z s) := rfl

/-- Group 4 of the body adds its product. -/
theorem group4 : k0_pay20 k0_pay3 keep a (k0_pay19 x) (constant S8x1024 .f32 0x00000000#32) q z s =
    addf a (part x q z s) := rfl

/-- Group 5 of the body adds its product. -/
theorem group5 : k0_pay23 a (k0_pay21 k0_pay3 keep x) (k0_pay22 q z s) =
    addf a (part x q z s) := rfl

/-- Group 6 of the body adds its product. -/
theorem group6 : k0_pay27 a (k0_pay24 k0_pay3 keep x) (k0_pay25 q) (k0_pay26 z) s =
    addf a (part x q z s) := rfl

/-- Group 7 of the body adds its product. -/
theorem group7 : k0_pay31 a (k0_pay28 k0_pay3 keep x) (k0_pay29 q) (k0_pay30 z) s =
    addf a (part x q z s) := rfl

/-- Group 8 of the body adds its product. -/
theorem group8 : k0_pay35 a (k0_pay32 k0_pay3 keep x) (k0_pay33 q) (k0_pay34 z) s =
    addf a (part x q z s) := rfl

/-- Group 9 of the body adds its product. -/
theorem group9 : k0_pay40 a (k0_pay36 k0_pay3 keep x) (k0_pay37 q) (k0_pay38 z) k0_pay39 s =
    addf a (part x q z s) := rfl

/-- Group 10 of the body adds its product. -/
theorem group10 : k0_pay44 a (k0_pay41 k0_pay3 keep x) (k0_pay42 q) (k0_pay43 z) s =
    addf a (part x q z s) := rfl

/-- Group 11 of the body adds its product. -/
theorem group11 : k0_pay48 a (k0_pay45 k0_pay3 keep x) (k0_pay46 q) (k0_pay47 z) s =
    addf a (part x q z s) := rfl

/-- Group 12 of the body adds its product. -/
theorem group12 : k0_pay51 a (k0_pay49 k0_pay3 keep x) (k0_pay50 q) z s =
    addf a (part x q z s) := rfl

/-- Group 13 of the body adds its product. -/
theorem group13 : k0_pay54 a (k0_pay52 k0_pay3 keep x) (k0_pay53 q) z s y =
    shapeCast S64x640 (addf y (addf a (part x q z s))) shapeCasts_S64x640_S64x640 := rfl

/-- The mask as the body spells it. -/
theorem keep_eq : k0_pay7 8#32 k0_pay4 k0_pay5 k0_pay6 0#1 = keep := rfl

end Groups

section Blocks

variable (X : Vec F S8x1792 .bf16) (Q : Vec F S1792x640 .i32) (Z : Vec F S1x14x640 .i32) (S : Vec F S224x640 .bf16)

/-- Columns `128 g, …, 128 g + 127` of a point's `x` block. -/
def xOf (g : Fin 14) : Vec F S8x128 .bf16 := fun i =>
  X (ix2 (i 0) ⟨128 * g.val + (i 1).val, by have h1 : (i 1).val < 128 := (i 1).isLt; omega⟩)

/-- Rows `128 g, …, 128 g + 127` of a point's block of weight words. -/
def qOf (g : Fin 14) : Vec F S128x640 .i32 := fun i =>
  Q (ix2 ⟨128 * g.val + (i 0).val, by have h0 : (i 0).val < 128 := (i 0).isLt; omega⟩ (i 1))

/-- Row `g` of a point's block of zero words. -/
def zOf (g : Fin 14) : Vec F S1x1x640 .i32 := fun i => Z (ix3 0 g (i 2))

/-- Rows `16 g, …, 16 g + 15` of a point's block of scales. -/
def sOf (g : Fin 14) : Vec F S16x640 .bf16 := fun i =>
  S (ix2 ⟨16 * g.val + (i 0).val, by have h0 : (i 0).val < 16 := (i 0).isLt; omega⟩ (i 1))

/-- The product of group `g` of a point's blocks. -/
def partOf (g : Fin 14) : FVec F S64x640 .f32 := part (xOf X g) (qOf Q g) (zOf Z g) (sOf S g)

/-- A load of 128 columns of the `x` block reads the group that starts there. -/
theorem ld_x (o : Nat) (inb : ∀ a, ![0, o] a + ![8, 128] a ≤ S8x1792.size a) (g : Fin 14) (h : o = 128 * g.val) :
    (View.ld X (Rect.unit ![0, o] ![8, 128] inb) : Vec F S8x128 .bf16) = xOf X g := by
  subst h; funext x
  exact View.ld_unit_apply_of X _ _ inb x _ fun a => match a with
    | ⟨0, _⟩ => (Nat.zero_add _).symm
    | ⟨1, _⟩ => rfl

/-- A load of 128 rows of the weight words reads the group that starts there. -/
theorem ld_q (o : Nat) (inb : ∀ a, ![o, 0] a + ![128, 640] a ≤ S1792x640.size a) (g : Fin 14) (h : o = 128 * g.val) :
    (View.ld Q (Rect.unit ![o, 0] ![128, 640] inb) : Vec F S128x640 .i32) = qOf Q g := by
  subst h; funext x
  exact View.ld_unit_apply_of Q _ _ inb x _ fun a => match a with
    | ⟨0, _⟩ => rfl
    | ⟨1, _⟩ => (Nat.zero_add _).symm

/-- A load of one row of the zero words reads that row. -/
theorem ld_z (o : Nat) (inb : ∀ a, ![0, o, 0] a + ![1, 1, 640] a ≤ S1x14x640.size a) (g : Fin 14) (h : o = g.val) :
    (View.ld Z (Rect.unit ![0, o, 0] ![1, 1, 640] inb) : Vec F S1x1x640 .i32) = zOf Z g := by
  subst h; funext x
  have h0 : (x 0).val < 1 := (x 0).isLt
  have h1 : (x 1).val < 1 := (x 1).isLt
  exact View.ld_unit_apply_of Z _ _ inb x _ fun a => match a with
    | ⟨0, _⟩ => by show 0 = 0 + (x 0).val; omega
    | ⟨1, _⟩ => by show g.val = g.val + (x 1).val; omega
    | ⟨2, _⟩ => (Nat.zero_add _).symm

/-- A load of 16 rows of the scales reads the group that starts there. -/
theorem ld_s (o : Nat) (inb : ∀ a, ![o, 0] a + ![16, 640] a ≤ S224x640.size a) (g : Fin 14) (h : o = 16 * g.val) :
    (View.ld S (Rect.unit ![o, 0] ![16, 640] inb) : Vec F S16x640 .bf16) = sOf S g := by
  subst h; funext x
  exact View.ld_unit_apply_of S _ _ inb x _ fun a => match a with
    | ⟨0, _⟩ => rfl
    | ⟨1, _⟩ => (Nat.zero_add _).symm

/-- What one grid point adds to the accumulator: the products of its fourteen groups, summed in order. -/
def total : FVec F S64x640 .f32 :=
  addf (addf (addf (addf (addf (addf (addf (addf (addf (addf (addf (addf (addf (partOf X Q Z S 0) (partOf X Q Z S 1)) (partOf X Q Z S 2)) (partOf X Q Z S 3)) (partOf X Q Z S 4)) (partOf X Q Z S 5)) (partOf X Q Z S 6)) (partOf X Q Z S 7)) (partOf X Q Z S 8)) (partOf X Q Z S 9)) (partOf X Q Z S 10)) (partOf X Q Z S 11)) (partOf X Q Z S 12)) (partOf X Q Z S 13)

end Blocks

end Cert.KernelIdeal.Body

end
-- ==== Proof.Words.lean ====
/-
  Facts on 32-bit words.

  The kernel computes `K / 8` and `K % 8` of a row or column number by signed divisions and their corrections, and
  cuts a packed word into its eight 4-bit fields by shifts.  The statements here give these words in closed form.
-/
module

public import Idealize.ShloMosaic.Lib.Pointwise

@[expose] public section

set_option maxRecDepth 65536

noncomputable section

namespace Cert.Words

open Idealize.ShloMosaic

/-- The floor of a word divided by 8, as the kernel spells it: the truncated quotient, one less for a negative inexact one. -/
def floorDiv8 (v : BitVec 32) : BitVec 32 :=
  Scalar.select
    (IntOp.andi
      (IntOp.cmpi CmpIPredicate.ne
        (IntOp.subi (BitVec.setWidth 32 (IntOp.cmpi CmpIPredicate.sgt v 0#32))
          (BitVec.setWidth 32 (IntOp.cmpi CmpIPredicate.slt v 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector v 8#32) 0#32))
    (IntOp.subi (IntOp.divsi ArithUnit.vector v 8#32) 1#32)
    (IntOp.divsi ArithUnit.vector v 8#32)

/-- The remainder of a word by 8 with the divisor's sign, as the kernel spells it. -/
def floorMod8 (v : BitVec 32) : BitVec 32 :=
  Scalar.select
    (IntOp.andi
      (IntOp.xori
        (IntOp.cmpi CmpIPredicate.slt
          (IntOp.remsi ArithUnit.vector v (Scalar.select (Scalar.cmpi CmpIPredicate.eq 8#32 0#32) 1#32 8#32)) 0#32)
        0#1)
      (IntOp.cmpi CmpIPredicate.ne
        (IntOp.remsi ArithUnit.vector v (Scalar.select (Scalar.cmpi CmpIPredicate.eq 8#32 0#32) 1#32 8#32)) 0#32))
    (IntOp.addi
      (IntOp.remsi ArithUnit.vector v (Scalar.select (Scalar.cmpi CmpIPredicate.eq 8#32 0#32) 1#32 8#32)) 8#32)
    (IntOp.remsi ArithUnit.vector v (Scalar.select (Scalar.cmpi CmpIPredicate.eq 8#32 0#32) 1#32 8#32))

/-- On the numbers below 1024 the first is the quotient. -/
theorem floorDiv8_ofNat (K : Fin 1024) : floorDiv8 (BitVec.ofNat 32 K.val) = BitVec.ofNat 32 (K.val / 8) := by
  revert K; decide +kernel

/-- On the numbers below 1024 the second is the remainder. -/
theorem floorMod8_ofNat (K : Fin 1024) : floorMod8 (BitVec.ofNat 32 K.val) = BitVec.ofNat 32 (K.val % 8) := by
  revert K; decide +kernel

/-- Words of small numbers are equal exactly if the numbers are. -/
theorem cmpi_eq_ofNat {a b : Nat} (ha : a < 2 ^ 32) (hb : b < 2 ^ 32) :
    IntOp.cmpi CmpIPredicate.eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have e := congrArg BitVec.toNat e
      rwa [BitVec.toNat_ofNat, BitVec.toNat_ofNat, Nat.mod_eq_of_lt ha, Nat.mod_eq_of_lt hb] at e)
    rw [if_neg h]
    show BitVec.ofBool (BitVec.ofNat 32 a == BitVec.ofNat 32 b) = 0#1
    rw [beq_eq_false_iff_ne.mpr this]; rfl

/-- Field `i` of a packed word: its bits `4 i, …, 4 i + 3`. -/
def nib (w : BitVec 32) (i : Fin 8) : BitVec 32 := (w >>> (4 * i.val)) &&& 15#32

/-- The kernel's shift amount at row `K` is four times `K % 8`. -/
theorem shift_ofNat (K : Fin 1024) :
    IntOp.muli (IntOp.andi (BitVec.ofNat 32 K.val) 7#32) 4#32 = BitVec.ofNat 32 (4 * (K.val % 8)) := by
  revert K; decide +kernel

/-- The kernel's shift and mask at row `K` give field `K % 8`. -/
theorem kernel_nib (w : BitVec 32) (K : Nat) (h : K < 1024) :
    IntOp.andi (IntOp.shrui ArithUnit.vector w (IntOp.muli (IntOp.andi (BitVec.ofNat 32 K) 7#32) 4#32)) 15#32
      = nib w ⟨K % 8, Nat.mod_lt _ (by decide)⟩ := by
  rw [shift_ofNat ⟨K, h⟩]
  have h4 : (BitVec.ofNat 32 (4 * (K % 8))).toNat = 4 * (K % 8) := by
    rw [BitVec.toNat_ofNat]; omega
  unfold IntOp.shrui IntOp.andi nib
  rw [if_pos (by rw [h4]; omega)]
  show (w >>> (BitVec.ofNat 32 (4 * (K % 8))).toNat) &&& _ = _
  rw [h4]

/-- The reference's arithmetic shift and mask by a constant give the same field: the sign only fills bits above it. -/
theorem host_nib (w : BitVec 32) (i : Fin 8) :
    IntOp.andi (IntOp.shrsi ArithUnit.host w (BitVec.ofNat 32 (4 * i.val))) 15#32 = nib w i := by
  have hi := i.isLt
  have h4 : (BitVec.ofNat 32 (4 * i.val)).toNat = 4 * i.val := by
    rw [BitVec.toNat_ofNat]; omega
  unfold IntOp.shrsi IntOp.andi nib
  rw [if_pos (by rw [h4]; omega)]
  show (w.sshiftRight (BitVec.ofNat 32 (4 * i.val)).toNat) &&& _ = _
  rw [h4]
  apply BitVec.eq_of_getLsbD_eq
  intro j hj
  rw [BitVec.getLsbD_and, BitVec.getLsbD_and, BitVec.getLsbD_sshiftRight, BitVec.getLsbD_ushiftRight]
  by_cases h : j < 4
  · have : 4 * i.val + j < 32 := by omega
    simp [this, hj, Nat.not_le.mpr hj]
  · have : (15#32).getLsbD j = false := by
      have : ∀ j : Fin 32, 4 ≤ j.val → (15#32).getLsbD j.val = false := by decide
      exact this ⟨j, hj⟩ (by show 4 ≤ j; omega)
    simp [this]

end Cert.Words

end
-- ==== Proof.Group.lean ====
/-
  The product of one group, element by element.

  In the spread `x` block row `r` keeps, of each run of eight columns, only column `r / 8`, and that column `8 k + i`
  holds `x[r % 8, k]`.  The dequantized weights hold at row `8 k + i` field `i` of weight word `k`.  So the product at
  row `r` is a sum over the 128 words of the group, each at field `r / 8`.
-/
module

public import proofs.«01_k».proof.Proof.Body
public import proofs.«01_k».proof.Proof.Words

@[expose] public section

set_option maxRecDepth 65536

noncomputable section

namespace Cert.KernelIdeal.Body

open Idealize.ShloMosaic Idealize.ShloMosaic.TcCoe Idealize.ShloMosaic.Tactic
open Idealize.SL Idealize.SL.Sem
open Cert.KernelIdeal.Gen Cert.Words

local notation "𝕀" => Idealize.ShloMosaic.Ideal

/-- The spreading matrix: one where the column divided by 8 is the row, zero elsewhere. -/
theorem expand_apply (k : Fin 128) (K : Fin 1024) :
    (k0_pay3 : FVec 𝕀 S128x1024 .bf16) (ix2 k K) = if K.val / 8 = k.val then 1 else 0 := by
  have h : (k0_pay3 : FVec 𝕀 S128x1024 .bf16) (ix2 k K) = (FloatOps.sitofp (F := 𝕀) FTy.f32
      (BitVec.setWidth 32 (IntOp.cmpi CmpIPredicate.eq (floorDiv8 (BitVec.ofNat 32 K.val)) (BitVec.ofNat 32 k.val))) : EReal) := by
    pointwise [k0_pay3]
    rfl
  rw [h, floorDiv8_ofNat, cmpi_eq_ofNat (by have := K.isLt; omega) (by have := k.isLt; omega)]
  split
  · show (((BitVec.setWidth 32 1#1).toInt : ℝ) : EReal) = 1
    have : (BitVec.setWidth 32 1#1).toInt = 1 := by decide
    rw [this]; simp
  · show (((BitVec.setWidth 32 0#1).toInt : ℝ) : EReal) = 0
    have : (BitVec.setWidth 32 0#1).toInt = 0 := by decide
    rw [this]; simp

/-- The mask: row `r` keeps the columns whose remainder by 8 is `r / 8`. -/
theorem keep_apply (r : Fin 64) (K : Fin 1024) : keep (ix2 r K) = if K.val % 8 = r.val / 8 then 1#1 else 0#1 := by
  have h : keep (ix2 r K) = IntOp.cmpi CmpIPredicate.eq (floorMod8 (BitVec.ofNat 32 K.val)) (floorDiv8 (BitVec.ofNat 32 r.val)) := by
    pointwise [keep, k0_pay7, k0_pay4, k0_pay5, k0_pay6]
    rfl
  rw [h, floorMod8_ofNat, floorDiv8_ofNat ⟨r.val, by have := r.isLt; omega⟩,
    cmpi_eq_ofNat (by have := K.isLt; omega) (by have := r.isLt; show r.val / 8 < _; omega)]

/-- The `x` block spread over eight times as many columns: each of its columns eight times. -/
def spread (x : Vec 𝕀 S8x128 .bf16) : FVec 𝕀 S8x1024 .f32 :=
  matmul dot_S8x128_S128x1024_S8x1024_1_0_0_1_n_n none (shapeCast S8x128 x shapeCasts_S8x128_S8x128 : FVec 𝕀 S8x128 .bf16)
    (k0_pay3 : FVec 𝕀 S128x1024 .bf16)
    (constant S8x1024 .f32 0x00000000#32)

theorem spread_apply (x : Vec 𝕀 S8x128 .bf16) (b : Fin 8) (K : Fin 1024) :
    spread x (ix2 b K) = x (ix2 b ⟨K.val / 8, by have := K.isLt; omega⟩) := by
  have h : spread x (ix2 b K) = ∑ k : Fin 128, x (ix2 b k) * (k0_pay3 : FVec 𝕀 S128x1024 .bf16) (ix2 k K) := by
    pointwise [spread]
  rw [h, Finset.sum_eq_single ⟨K.val / 8, by have := K.isLt; omega⟩]
  · rw [expand_apply, if_pos rfl, mul_one]
  · intro k _ hk
    rw [expand_apply, if_neg (fun e => hk (Fin.ext e.symm)), mul_zero]
  · intro hn; exact absurd (Finset.mem_univ _) hn

/-- The left operand of a group's product at row `r`, column `K`: an entry of `x` where the mask keeps it, else zero. -/
theorem lhs_apply (x : Vec 𝕀 S8x128 .bf16) (r : Fin 64) (K : Fin 1024) :
    k0_pay24 k0_pay3 keep x (ix2 r K) = if K.val % 8 = r.val / 8 then
      x (ix2 ⟨r.val % 8, Nat.mod_lt _ (by decide)⟩ ⟨K.val / 8, by have := K.isLt; omega⟩) else 0 := by
  have h : k0_pay24 k0_pay3 keep x (ix2 r K) = Scalar.select (keep (ix2 r K))
      (concatenate S64x1024 0 (List.ofFn fun _ : Fin 8 => (⟨S8x1024, spread x⟩ : (s : Shape) × (s.Idx → 𝕀 .f32)))
        concatenates_S8x1024_S8x1024_S8x1024_S8x1024_S8x1024_S8x1024_S8x1024_S8x1024_S64x1024_d0 (ix2 r K))
      (Scalar.ofBits .f32 0x00000000#32) := rfl
  have e := (concatenate_ofFn_apply (s₁ := S8x1024) (t := S64x1024) 0 (fun _ : Fin 8 => spread x)
    concatenates_S8x1024_S8x1024_S8x1024_S8x1024_S8x1024_S8x1024_S8x1024_S8x1024_S64x1024_d0 rfl 8 rfl (ix2 r K)
    ⟨r.val / 8, by have := r.isLt; omega⟩ rfl (ix2 ⟨r.val % 8, Nat.mod_lt _ (by decide)⟩ K) rfl
    (fun b hb => match b, hb with
      | ⟨0, _⟩, hb => absurd rfl hb
      | ⟨1, _⟩, _ => rfl)).trans (spread_apply x _ K)
  rw [h, keep_apply]
  refine (congrArg (fun v => Scalar.select _ v _) e).trans ?_
  split
  · rfl
  · show (Scalar.ofBits .f32 0x00000000#32 : 𝕀 .f32) = 0
    pointwise

/-- The codes at row `K`: field `K % 8` of weight word `K / 8`, as a number. -/
theorem code_apply (q : Vec 𝕀 S128x640 .i32) (K : Fin 1024) (c : Fin 640) :
    (k0_pay25 q : FVec 𝕀 S1024x640 .bf16) (ix2 K c) =
      FloatOps.sitofp .bf16 (nib (q (ix2 ⟨K.val / 8, by have := K.isLt; omega⟩ c)) ⟨K.val % 8, Nat.mod_lt _ (by decide)⟩) := by
  pointwise [k0_pay25]
  rw [kernel_nib _ _ K.isLt]

/-- The zero points of one group, 64 rows of them: row `r` holds field `r % 8` of the group's zero word. -/
theorem zero_apply (z : Vec 𝕀 S1x1x640 .i32) (r : Fin 64) (c : Fin 640) :
    (k0_pay30 z : FVec 𝕀 S64x640 .bf16) (ix2 r c) =
      FloatOps.sitofp .bf16 (nib (z (ix3 0 0 c)) ⟨r.val % 8, Nat.mod_lt _ (by decide)⟩) := by
  pointwise [k0_pay30]
  rw [kernel_nib _ _ (by have := r.isLt; omega)]

/-- The zero points laid out for the whole group: row `K` holds field `K % 8`. -/
theorem zeros_apply (z : Vec 𝕀 S1x1x640 .i32) (K : Fin 1024) (c : Fin 640) :
    (k0_pay26 z : FVec 𝕀 S1024x640 .bf16) (ix2 K c) =
      FloatOps.sitofp .bf16 (nib (z (ix3 0 0 c)) ⟨K.val % 8, Nat.mod_lt _ (by decide)⟩) := by
  have h : (k0_pay26 z : FVec 𝕀 S1024x640 .bf16) = concatenate S1024x640 0
      (List.ofFn fun _ : Fin 16 => (⟨S64x640, k0_pay30 z⟩ : (s : Shape) × (s.Idx → 𝕀 .bf16)))
      concatenates_S64x640_S64x640_S64x640_S64x640_S64x640_S64x640_S64x640_S64x640_S64x640_S64x640_S64x640_S64x640_S64x640_S64x640_S64x640_S64x640_S1024x640_d0 := rfl
  refine (congrFun h _).trans ((concatenate_ofFn_apply (s₁ := S64x640) (t := S1024x640) 0
    (fun _ : Fin 16 => (k0_pay30 z : FVec 𝕀 S64x640 .bf16)) concatenates_S64x640_S64x640_S64x640_S64x640_S64x640_S64x640_S64x640_S64x640_S64x640_S64x640_S64x640_S64x640_S64x640_S64x640_S64x640_S64x640_S1024x640_d0 rfl 64 rfl (ix2 K c)
    ⟨K.val / 64, by have := K.isLt; omega⟩ rfl (ix2 ⟨K.val % 64, Nat.mod_lt _ (by decide)⟩ c) rfl
    (fun b hb => match b, hb with
      | ⟨0, _⟩, hb => absurd rfl hb
      | ⟨1, _⟩, _ => rfl)).trans ((zero_apply z _ c).trans ?_))
  congr 2
  exact Fin.ext (by show K.val % 64 % 8 = K.val % 8; omega)

/-- The scales laid out for the whole group: row `K` holds scale row `K % 16`. -/
theorem scaleRows_apply (s : Vec 𝕀 S16x640 .bf16) (K : Fin 1024) (c : Fin 640) :
    (scaleRows s : FVec 𝕀 S1024x640 .bf16) (ix2 K c) = s (ix2 ⟨K.val % 16, Nat.mod_lt _ (by decide)⟩ c) := by
  refine (concatenate_ofFn_apply (s₁ := S16x640) (t := S1024x640) 0
    (fun _ : Fin 64 => shapeCast S16x640 s shapeCasts_S16x640_S16x640) concatenates_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S16x640_S1024x640_d0 rfl 16 rfl (ix2 K c)
    ⟨K.val / 16, by have := K.isLt; omega⟩ rfl (ix2 ⟨K.val % 16, Nat.mod_lt _ (by decide)⟩ c) rfl
    (fun b hb => match b, hb with
      | ⟨0, _⟩, hb => absurd rfl hb
      | ⟨1, _⟩, _ => rfl)).trans ?_
  rw [shapeCast_self]

/-- Row `8 k + i` of the 1024 rows. -/
def row (k : Fin 128) (i : Fin 8) : Fin 1024 := ⟨8 * k.val + i.val, by have := k.isLt; have := i.isLt; omega⟩

/-- A sum over 1024 rows of which only those with remainder `i` by 8 count is a sum over 128. -/
theorem sum_rows (f : Fin 1024 → EReal) (i : Fin 8) :
    ∑ K : Fin 1024, (if K.val % 8 = i.val then f K else 0) = ∑ k : Fin 128, f (row k i) := by
  rw [← Finset.sum_filter]
  refine (Finset.sum_bij (fun k _ => row k i) ?_ ?_ ?_ ?_).symm
  · intro k _
    have := i.isLt
    exact Finset.mem_filter.mpr ⟨Finset.mem_univ _, by show (8 * k.val + i.val) % 8 = i.val; omega⟩
  · intro a _ b _ h
    have : 8 * a.val + i.val = 8 * b.val + i.val := congrArg Fin.val h
    exact Fin.ext (by omega)
  · intro K hK
    have hK : K.val % 8 = i.val := (Finset.mem_filter.mp hK).2
    have := K.isLt
    exact ⟨⟨K.val / 8, by omega⟩, Finset.mem_univ _, Fin.ext (by show 8 * (K.val / 8) + i.val = K.val; omega)⟩
  · intro k _; rfl

/-- The product of one group at row `8 i + b`, column `c`: over the group's 128 weight words, `x` times the
    difference of field `i` of the weight and of the zero word, times the scale. -/
theorem part_apply (x : Vec 𝕀 S8x128 .bf16) (q : Vec 𝕀 S128x640 .i32) (z : Vec 𝕀 S1x1x640 .i32) (s : Vec 𝕀 S16x640 .bf16)
    (r : Fin 64) (b i : Fin 8) (hr : r.val = 8 * i.val + b.val) (c : Fin 640) :
    part x q z s (ix2 r c) = ∑ k : Fin 128, x (ix2 b k) *
      ((FloatOps.sitofp (F := 𝕀) .bf16 (nib (q (ix2 k c)) i) - FloatOps.sitofp (F := 𝕀) .bf16 (nib (z (ix3 0 0 c)) i)) *
        s (ix2 ⟨(8 * k.val + i.val) % 16, Nat.mod_lt _ (by decide)⟩ c)) := by
  have h : part x q z s (ix2 r c) = ∑ K : Fin 1024, k0_pay24 k0_pay3 keep x (ix2 r K) *
      (((k0_pay25 q : FVec 𝕀 S1024x640 .bf16) (ix2 K c) - (k0_pay26 z : FVec 𝕀 S1024x640 .bf16) (ix2 K c)) *
        (scaleRows s : FVec 𝕀 S1024x640 .bf16) (ix2 K c)) := by
    pointwise [part]
  have hb := b.isLt
  have hi : r.val / 8 = i.val := by omega
  rw [h]
  refine Eq.trans (Finset.sum_congr rfl fun K _ => ?_) ((sum_rows (fun K =>
    x (ix2 b ⟨K.val / 8, by have := K.isLt; omega⟩) *
      ((FloatOps.sitofp (F := 𝕀) .bf16 (nib (q (ix2 ⟨K.val / 8, by have := K.isLt; omega⟩ c)) i)
        - FloatOps.sitofp (F := 𝕀) .bf16 (nib (z (ix3 0 0 c)) i)) *
        s (ix2 ⟨K.val % 16, Nat.mod_lt _ (by decide)⟩ c))) i).trans (Finset.sum_congr rfl fun k _ => ?_))
  · rw [lhs_apply, code_apply, zeros_apply, scaleRows_apply, hi]
    split
    · rename_i hK
      have e1 : (⟨r.val % 8, Nat.mod_lt _ (by decide)⟩ : Fin 8) = b := Fin.ext (by show r.val % 8 = b.val; omega)
      have e2 : (⟨K.val % 8, Nat.mod_lt _ (by decide)⟩ : Fin 8) = i := Fin.ext hK
      rw [e1, e2]
    · rw [zero_mul]
  · have e : (⟨(row k i).val / 8, by have := (row k i).isLt; omega⟩ : Fin 128) = k :=
      Fin.ext (by have := i.isLt; show (8 * k.val + i.val) / 8 = k.val; omega)
    rw [e]
    rfl

end Cert.KernelIdeal.Body

end
-- ==== Proof.Points.lean ====
/-
  What the accumulator and the output block hold after each grid point.

  The first point starts from zero, every point adds the sum of its fourteen group products (`total`), and the last
  point copies the accumulator into the output block.
-/
module

public import proofs.«01_k».proof.Proof.Body

@[expose] public section

set_option maxRecDepth 65536

noncomputable section

namespace Cert.KernelIdeal.Body

open Idealize.ShloMosaic Idealize.ShloMosaic.TcCoe Idealize.ShloMosaic.Tactic
open Idealize.SL Idealize.SL.Sem
open Cert.KernelIdeal.Gen

variable {F : FTy → Type} [FloatOps F]
variable (m : (ℓ : Loc nD τ sig) → Buf (Elt F) ℓ)

theorem offsets_zero : (![0, 0] : Fin S64x640.rank → Nat) = fun _ => 0 := by
  funext a; match a with | ⟨0, _⟩ => rfl | ⟨1, _⟩ => rfl

/-- The running sum as the body prints it, over whatever the loads read. -/
theorem body_sum (X : Vec F S8x1792 .bf16) (Q : Vec F S1792x640 .i32) (Z : Vec F S1x14x640 .i32) (S : Vec F S224x640 .bf16)
    (y : FVec F S64x640 .f32) :
    k0_pay54
      (k0_pay51
      (k0_pay48
      (k0_pay44
      (k0_pay40
      (k0_pay35
      (k0_pay31
      (k0_pay27
      (k0_pay23
      (k0_pay20 k0_pay3 (k0_pay7 8#32 k0_pay4 k0_pay5 k0_pay6 0#1)
      (k0_pay18 (k0_pay7 8#32 k0_pay4 k0_pay5 k0_pay6 0#1)
      (k0_pay15
      (k0_pay13
      (k0_pay10 (k0_pay8 k0_pay3 8#32 k0_pay4 k0_pay5 k0_pay6 0#1 (View.ld X (Rect.unit ![0, 0] ![8, 128] inb_S8x1792_S8x128_0_0))) (k0_pay9 (View.ld Q (Rect.unit ![0, 0] ![128, 640] inb_S1792x640_S128x640_0_0))) (iota .tc S1024x640 32 [0] iota_S1024x640_d0_w32) 7#32 (View.ld Z (Rect.unit ![0, 0, 0] ![1, 1, 640] inb_S1x14x640_S1x1x640_0_0_0)) (View.ld S (Rect.unit ![0, 0] ![16, 640] inb_S224x640_S16x640_0_0))) (k0_pay11 k0_pay3 (k0_pay7 8#32 k0_pay4 k0_pay5 k0_pay6 0#1) (View.ld X (Rect.unit ![0, 128] ![8, 128] inb_S8x1792_S8x128_0_128))) (k0_pay12 (View.ld Q (Rect.unit ![128, 0] ![128, 640] inb_S1792x640_S128x640_128_0))) (View.ld Z (Rect.unit ![0, 1, 0] ![1, 1, 640] inb_S1x14x640_S1x1x640_0_1_0)) (View.ld S (Rect.unit ![16, 0] ![16, 640] inb_S224x640_S16x640_16_0))) (k0_pay14 k0_pay3 (k0_pay7 8#32 k0_pay4 k0_pay5 k0_pay6 0#1) (View.ld X (Rect.unit ![0, 256] ![8, 128] inb_S8x1792_S8x128_0_256))) (View.ld Q (Rect.unit ![256, 0] ![128, 640] inb_S1792x640_S128x640_256_0)) (View.ld Z (Rect.unit ![0, 2, 0] ![1, 1, 640] inb_S1x14x640_S1x1x640_0_2_0)) (View.ld S (Rect.unit ![32, 0] ![16, 640] inb_S224x640_S16x640_32_0))) (k0_pay16 k0_pay3 (View.ld X (Rect.unit ![0, 384] ![8, 128] inb_S8x1792_S8x128_0_384))) k0_pay17 (View.ld Q (Rect.unit ![384, 0] ![128, 640] inb_S1792x640_S128x640_384_0)) (View.ld Z (Rect.unit ![0, 3, 0] ![1, 1, 640] inb_S1x14x640_S1x1x640_0_3_0)) (View.ld S (Rect.unit ![48, 0] ![16, 640] inb_S224x640_S16x640_48_0))) (k0_pay19 (View.ld X (Rect.unit ![0, 512] ![8, 128] inb_S8x1792_S8x128_0_512))) (constant S8x1024 .f32 0x00000000#32) (View.ld Q (Rect.unit ![512, 0] ![128, 640] inb_S1792x640_S128x640_512_0)) (View.ld Z (Rect.unit ![0, 4, 0] ![1, 1, 640] inb_S1x14x640_S1x1x640_0_4_0)) (View.ld S (Rect.unit ![64, 0] ![16, 640] inb_S224x640_S16x640_64_0))) (k0_pay21 k0_pay3 (k0_pay7 8#32 k0_pay4 k0_pay5 k0_pay6 0#1) (View.ld X (Rect.unit ![0, 640] ![8, 128] inb_S8x1792_S8x128_0_640))) (k0_pay22 (View.ld Q (Rect.unit ![640, 0] ![128, 640] inb_S1792x640_S128x640_640_0)) (View.ld Z (Rect.unit ![0, 5, 0] ![1, 1, 640] inb_S1x14x640_S1x1x640_0_5_0)) (View.ld S (Rect.unit ![80, 0] ![16, 640] inb_S224x640_S16x640_80_0)))) (k0_pay24 k0_pay3 (k0_pay7 8#32 k0_pay4 k0_pay5 k0_pay6 0#1) (View.ld X (Rect.unit ![0, 768] ![8, 128] inb_S8x1792_S8x128_0_768))) (k0_pay25 (View.ld Q (Rect.unit ![768, 0] ![128, 640] inb_S1792x640_S128x640_768_0))) (k0_pay26 (View.ld Z (Rect.unit ![0, 6, 0] ![1, 1, 640] inb_S1x14x640_S1x1x640_0_6_0))) (View.ld S (Rect.unit ![96, 0] ![16, 640] inb_S224x640_S16x640_96_0))) (k0_pay28 k0_pay3 (k0_pay7 8#32 k0_pay4 k0_pay5 k0_pay6 0#1) (View.ld X (Rect.unit ![0, 896] ![8, 128] inb_S8x1792_S8x128_0_896))) (k0_pay29 (View.ld Q (Rect.unit ![896, 0] ![128, 640] inb_S1792x640_S128x640_896_0))) (k0_pay30 (View.ld Z (Rect.unit ![0, 7, 0] ![1, 1, 640] inb_S1x14x640_S1x1x640_0_7_0))) (View.ld S (Rect.unit ![112, 0] ![16, 640] inb_S224x640_S16x640_112_0))) (k0_pay32 k0_pay3 (k0_pay7 8#32 k0_pay4 k0_pay5 k0_pay6 0#1) (View.ld X (Rect.unit ![0, 1024] ![8, 128] inb_S8x1792_S8x128_0_1024))) (k0_pay33 (View.ld Q (Rect.unit ![1024, 0] ![128, 640] inb_S1792x640_S128x640_1024_0))) (k0_pay34 (View.ld Z (Rect.unit ![0, 8, 0] ![1, 1, 640] inb_S1x14x640_S1x1x640_0_8_0))) (View.ld S (Rect.unit ![128, 0] ![16, 640] inb_S224x640_S16x640_128_0))) (k0_pay36 k0_pay3 (k0_pay7 8#32 k0_pay4 k0_pay5 k0_pay6 0#1) (View.ld X (Rect.unit ![0, 1152] ![8, 128] inb_S8x1792_S8x128_0_1152))) (k0_pay37 (View.ld Q (Rect.unit ![1152, 0] ![128, 640] inb_S1792x640_S128x640_1152_0))) (k0_pay38 (View.ld Z (Rect.unit ![0, 9, 0] ![1, 1, 640] inb_S1x14x640_S1x1x640_0_9_0))) k0_pay39 (View.ld S (Rect.unit ![144, 0] ![16, 640] inb_S224x640_S16x640_144_0))) (k0_pay41 k0_pay3 (k0_pay7 8#32 k0_pay4 k0_pay5 k0_pay6 0#1) (View.ld X (Rect.unit ![0, 1280] ![8, 128] inb_S8x1792_S8x128_0_1280))) (k0_pay42 (View.ld Q (Rect.unit ![1280, 0] ![128, 640] inb_S1792x640_S128x640_1280_0))) (k0_pay43 (View.ld Z (Rect.unit ![0, 10, 0] ![1, 1, 640] inb_S1x14x640_S1x1x640_0_10_0))) (View.ld S (Rect.unit ![160, 0] ![16, 640] inb_S224x640_S16x640_160_0))) (k0_pay45 k0_pay3 (k0_pay7 8#32 k0_pay4 k0_pay5 k0_pay6 0#1) (View.ld X (Rect.unit ![0, 1408] ![8, 128] inb_S8x1792_S8x128_0_1408))) (k0_pay46 (View.ld Q (Rect.unit ![1408, 0] ![128, 640] inb_S1792x640_S128x640_1408_0))) (k0_pay47 (View.ld Z (Rect.unit ![0, 11, 0] ![1, 1, 640] inb_S1x14x640_S1x1x640_0_11_0))) (View.ld S (Rect.unit ![176, 0] ![16, 640] inb_S224x640_S16x640_176_0))) (k0_pay49 k0_pay3 (k0_pay7 8#32 k0_pay4 k0_pay5 k0_pay6 0#1) (View.ld X (Rect.unit ![0, 1536] ![8, 128] inb_S8x1792_S8x128_0_1536))) (k0_pay50 (View.ld Q (Rect.unit ![1536, 0] ![128, 640] inb_S1792x640_S128x640_1536_0))) (View.ld Z (Rect.unit ![0, 12, 0] ![1, 1, 640] inb_S1x14x640_S1x1x640_0_12_0)) (View.ld S (Rect.unit ![192, 0] ![16, 640] inb_S224x640_S16x640_192_0))) (k0_pay52 k0_pay3 (k0_pay7 8#32 k0_pay4 k0_pay5 k0_pay6 0#1) (View.ld X (Rect.unit ![0, 1664] ![8, 128] inb_S8x1792_S8x128_0_1664))) (k0_pay53 (View.ld Q (Rect.unit ![1664, 0] ![128, 640] inb_S1792x640_S128x640_1664_0))) (View.ld Z (Rect.unit ![0, 13, 0] ![1, 1, 640] inb_S1x14x640_S1x1x640_0_13_0)) (View.ld S (Rect.unit ![208, 0] ![16, 640] inb_S224x640_S16x640_208_0)) y = addf y (total X Q Z S) := by
  simp only [keep_eq, group0, group1, group2, group3, group4, group5, group6, group7, group8, group9, group10, group11, group12, group13,
    ld_x _ 0 _ 0 rfl, ld_x _ 128 _ 1 rfl, ld_x _ 256 _ 2 rfl, ld_x _ 384 _ 3 rfl, ld_x _ 512 _ 4 rfl, ld_x _ 640 _ 5 rfl, ld_x _ 768 _ 6 rfl, ld_x _ 896 _ 7 rfl, ld_x _ 1024 _ 8 rfl, ld_x _ 1152 _ 9 rfl, ld_x _ 1280 _ 10 rfl, ld_x _ 1408 _ 11 rfl, ld_x _ 1536 _ 12 rfl, ld_x _ 1664 _ 13 rfl,
    ld_q _ 0 _ 0 rfl, ld_q _ 128 _ 1 rfl, ld_q _ 256 _ 2 rfl, ld_q _ 384 _ 3 rfl, ld_q _ 512 _ 4 rfl, ld_q _ 640 _ 5 rfl, ld_q _ 768 _ 6 rfl, ld_q _ 896 _ 7 rfl, ld_q _ 1024 _ 8 rfl, ld_q _ 1152 _ 9 rfl, ld_q _ 1280 _ 10 rfl, ld_q _ 1408 _ 11 rfl, ld_q _ 1536 _ 12 rfl, ld_q _ 1664 _ 13 rfl,
    ld_z _ 0 _ 0 rfl, ld_z _ 1 _ 1 rfl, ld_z _ 2 _ 2 rfl, ld_z _ 3 _ 3 rfl, ld_z _ 4 _ 4 rfl, ld_z _ 5 _ 5 rfl, ld_z _ 6 _ 6 rfl, ld_z _ 7 _ 7 rfl, ld_z _ 8 _ 8 rfl, ld_z _ 9 _ 9 rfl, ld_z _ 10 _ 10 rfl, ld_z _ 11 _ 11 rfl, ld_z _ 12 _ 12 rfl, ld_z _ 13 _ 13 rfl,
    ld_s _ 0 _ 0 rfl, ld_s _ 16 _ 1 rfl, ld_s _ 32 _ 2 rfl, ld_s _ 48 _ 3 rfl, ld_s _ 64 _ 4 rfl, ld_s _ 80 _ 5 rfl, ld_s _ 96 _ 6 rfl, ld_s _ 112 _ 7 rfl, ld_s _ 128 _ 8 rfl, ld_s _ 144 _ 9 rfl, ld_s _ 160 _ 10 rfl, ld_s _ 176 _ 11 rfl, ld_s _ 192 _ 12 rfl, ld_s _ 208 _ 13 rfl]
  rw [shapeCast_self]; rfl

/-- The first point leaves zero plus its sum. -/
theorem acc_first (c : Dev nD) (t : Fin cfg0.N) (h0 : t.val % 10 = 0) (h1 : ¬t.val % 10 = 9) :
    (outsAt0 m c t.val t.isLt).2 =
      addf (constant S64x640 .f32 0x00000000#32) (total (iblk m c 0 t) (iblk m c 1 t) (iblk m c 2 t) (iblk m c 3 t)) := by
  rw [outsAt0_A m c t h0 h1]
  dsimp only
  unfold sout0_A_0
  rw [View.read_writes_eq_canon _ _ _ (scover0_A_0 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine (View.canon_cons_unit_zero offsets_zero _ _ _).trans ?_
  rw [View.readCov_unit_zero _ offsets_zero]
  exact (body_sum _ _ _ _ _).trans rfl

/-- Every middle point adds its sum to what the point before left. -/
theorem acc_middle (c : Dev nD) (t : Fin cfg0.N) (h0 : ¬t.val % 10 = 0) (h1 : ¬t.val % 10 = 9) :
    (outsAt0 m c t.val t.isLt).2 =
      addf (outsAt0 m c (t.val - 1) (Nat.lt_of_le_of_lt (Nat.sub_le _ _) t.isLt)).2
        (total (iblk m c 0 t) (iblk m c 1 t) (iblk m c 2 t) (iblk m c 3 t)) := by
  rw [outsAt0_B m c t h0 h1]
  dsimp only
  unfold sout0_B_0
  rw [View.read_writes_eq_canon _ _ _ (scover0_B_0 c _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread]
  refine (View.canon_unit_zero offsets_zero _ _).trans ?_
  refine (body_sum _ _ _ _ _).trans ?_
  congr 1
  refine (View.ld_unit_zero offsets_zero _ _).trans ?_
  exact (Memref.isWhole_whole cc0_scratch0).read_unread _

/-- The last point leaves in the output block what the point before left plus its own sum. -/
theorem out_last (c : Dev nD) (t : Fin cfg0.N) (h0 : ¬t.val % 10 = 0) (h1 : t.val % 10 = 9) :
    (outsAt0 m c t.val t.isLt).1 =
      truncf .bf16 (addf (outsAt0 m c (t.val - 1) (Nat.lt_of_le_of_lt (Nat.sub_le _ _) t.isLt)).2
        (total (iblk m c 0 t) (iblk m c 1 t) (iblk m c 2 t) (iblk m c 3 t))) bitsLt_bf16_f32 := by
  rw [outsAt0_C m c t h0 h1]
  dsimp only
  unfold out0_C_4
  rw [View.read_writes_eq_canon _ _ _ (cover0_C_4 c _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread]
  refine (View.canon_unit_zero offsets_zero _ _).trans ?_
  rw [View.readCov_unit_zero _ offsets_zero]
  unfold k0_pay1
  refine congrArg (fun v => truncf .bf16 v bitsLt_bf16_f32) ?_
  refine (body_sum _ _ _ _ _).trans ?_
  congr 1
  refine (View.ld_unit_zero offsets_zero _ _).trans ?_
  exact (Memref.isWhole_whole cc0_scratch0).read_unread _

end Cert.KernelIdeal.Body

end
-- ==== Proof.Formula.lean ====
/-
  The quantity both programs compute.

  A weight word holds eight 4-bit codes, field `i` at bit `4 i`.  The weight that multiplies `x[b, k]` is a code
  minus a zero code, times a scale; 128 consecutive rows share one row of zero words and of scales.
-/
module

public import proofs.«01_k».proof.Proof.Words
public import Idealize.ShloMosaic.Lib.Pointwise

@[expose] public section

noncomputable section

namespace Cert.Formula

open Idealize.ShloMosaic Cert.Words

local notation "𝕀" => Idealize.ShloMosaic.Ideal

/-- The output column, within its run of eight, that field `i` of a word belongs to. -/
def order : Fin 8 → Fin 8 := ![0, 2, 4, 6, 1, 3, 5, 7]

/-- The field that output column `j` of a run of eight comes from. -/
def field : Fin 8 → Fin 8 := ![0, 4, 1, 5, 2, 6, 3, 7]

/-- `order` undoes `field`. -/
theorem order_field (j : Fin 8) : order (field j) = j := by revert j; decide

/-- The weight that field `i` of a weight word and of a zero word stand for at scale `s`. -/
def weight (q z : BitVec 32) (i : Fin 8) (s : EReal) : EReal :=
  ((FloatOps.sitofp (F := 𝕀) .bf16 (nib q i) : EReal) - (FloatOps.sitofp (F := 𝕀) .bf16 (nib z i) : EReal)) * s

/-- Row `b` of `x` times the weights of field `i` of word column `c`, scaled by scale column `8 c + j`. -/
def product (x : (⟨3, ![8, 1, 17920]⟩ : Shape).Idx → EReal) (q : (⟨2, ![17920, 640]⟩ : Shape).Idx → BitVec 32)
    (z : (⟨2, ![140, 640]⟩ : Shape).Idx → BitVec 32) (s : (⟨2, ![140, 5120]⟩ : Shape).Idx → EReal)
    (b i : Fin 8) (c : Fin 640) (j : Fin 8) : EReal :=
  ∑ k : Fin 17920, x (ix3 b 0 k) *
    weight (q (ix2 k c)) (z (ix2 ⟨k.val / 128, by have := k.isLt; omega⟩ c)) i
      (s (ix2 ⟨k.val / 128, by have := k.isLt; omega⟩ ⟨8 * c.val + j.val, by have := c.isLt; have := j.isLt; omega⟩))

/-- A sum over `m n` numbers, taken in `m` runs of `n`. -/
theorem sum_runs {M : Type} [AddCommMonoid M] (m n N : Nat) (h : m * n = N) (f : Nat → M) :
    ∑ a : Fin m, ∑ b : Fin n, f (n * a.val + b.val) = ∑ k : Fin N, f k.val := by
  subst h
  rw [← Fintype.sum_prod_type' (f := fun (a : Fin m) (b : Fin n) => f (n * a.val + b.val))]
  exact Fintype.sum_equiv finProdFinEquiv _ _ fun p => congrArg f (Nat.add_comm _ _)

end Cert.Formula

end
-- ==== Proof.Total.lean ====
/-
  What a grid point adds to the accumulator, element by element, and the accumulator as a sum over the points.
-/
module

public import proofs.«01_k».proof.Proof.Group
public import proofs.«01_k».proof.Proof.Points
public import proofs.«01_k».proof.Proof.Formula

@[expose] public section

set_option maxRecDepth 65536

noncomputable section

namespace Cert.KernelIdeal.Body

open Idealize.ShloMosaic Idealize.ShloMosaic.TcCoe Idealize.ShloMosaic.Tactic
open Idealize.SL Idealize.SL.Sem
open Cert.KernelIdeal.Gen Cert.Words Cert.Formula

local notation "𝕀" => Idealize.ShloMosaic.Ideal

/-- A grid point adds, at row `8 i + b`, the sum over its 14 groups of 128 rows. -/
theorem total_apply (X : Vec 𝕀 S8x1792 .bf16) (Q : Vec 𝕀 S1792x640 .i32) (Z : Vec 𝕀 S1x14x640 .i32) (S : Vec 𝕀 S224x640 .bf16)
    (r : Fin 64) (b i : Fin 8) (hr : r.val = 8 * i.val + b.val) (c : Fin 640) :
    (total X Q Z S (ix2 r c) : EReal) = ∑ g : Fin 14, ∑ k : Fin 128,
      X (ix2 b ⟨128 * g.val + k.val, by have := g.isLt; have := k.isLt; omega⟩) *
        weight (Q (ix2 ⟨128 * g.val + k.val, by have := g.isLt; have := k.isLt; omega⟩ c)) (Z (ix3 0 g c)) i
          (S (ix2 ⟨16 * g.val + (8 * k.val + i.val) % 16, by have := g.isLt; omega⟩ c)) := by
  have h : ∀ g : Fin 14, (partOf X Q Z S g (ix2 r c) : EReal) = ∑ k : Fin 128,
      X (ix2 b ⟨128 * g.val + k.val, by have := g.isLt; have := k.isLt; omega⟩) *
        weight (Q (ix2 ⟨128 * g.val + k.val, by have := g.isLt; have := k.isLt; omega⟩ c)) (Z (ix3 0 g c)) i
          (S (ix2 ⟨16 * g.val + (8 * k.val + i.val) % 16, by have := g.isLt; omega⟩ c)) := fun g =>
    part_apply (xOf X g) (qOf Q g) (zOf Z g) (sOf S g) r b i hr c
  rw [← Finset.sum_congr rfl fun g _ => h g]
  simp only [Fin.sum_univ_castSucc, Finset.univ_eq_empty, Finset.sum_empty, zero_add]
  rfl

variable (m : (ℓ : Loc nD τ sig) → Buf (Elt 𝕀) ℓ) (c : Dev nD)

/-- What grid point `n` adds at one element. -/
def added (j : S64x640.Idx) (n : Nat) : EReal :=
  if h : n < cfg0.N then (total (iblk m c 0 ⟨n, h⟩) (iblk m c 1 ⟨n, h⟩) (iblk m c 2 ⟨n, h⟩) (iblk m c 3 ⟨n, h⟩) j : EReal) else 0

/-- After point `n`, short of the last, the accumulator is the sum of what the points up to `n` added. -/
theorem acc_eq (j : S64x640.Idx) : ∀ (n : Nat) (h : n < cfg0.N), n < 9 →
    ((outsAt0 m c n h).2 j : EReal) = ∑ s ∈ Finset.range (n + 1), added m c j s
  | 0, h, _ => by
    refine (congrFun (acc_first m c ⟨0, h⟩ rfl (by show ¬0 % 10 = 9; decide)) j).trans ?_
    rw [Finset.sum_range_one]
    unfold added
    rw [dif_pos h]
    show ((constant S64x640 .f32 0x00000000#32 : FVec 𝕀 S64x640 .f32) j : EReal) + _ = _
    rw [show ((constant S64x640 .f32 0x00000000#32 : FVec 𝕀 S64x640 .f32) j : EReal) = 0 from by pointwise, zero_add]
  | n + 1, h, h9 => by
    refine (congrFun (acc_middle m c ⟨n + 1, h⟩ (by show ¬(n + 1) % 10 = 0; omega) (by show ¬(n + 1) % 10 = 9; omega)) j).trans ?_
    rw [Finset.sum_range_succ, ← acc_eq j n (Nat.lt_of_succ_lt h) (by omega)]
    unfold added
    rw [dif_pos h]
    rfl

/-- The last point leaves in the output block the sum of what the ten points added. -/
theorem out_eq (j : S64x640.Idx) (h : 9 < cfg0.N) :
    ((outsAt0 m c 9 h).1 j : EReal) = ∑ t : Fin 10, added m c j t.val := by
  refine (congrFun (out_last m c ⟨9, h⟩ (by show ¬9 % 10 = 0; decide) rfl) j).trans ?_
  rw [Fin.sum_univ_eq_sum_range (fun n => added m c j n) 10, Finset.sum_range_succ, ← acc_eq m c j 8 (by omega) (by omega)]
  unfold added
  rw [dif_pos h]
  rfl

end Cert.KernelIdeal.Body

end
-- ==== Proof.Layout.lean ====
/-
  The two rearrangements around the kernel, element by element.

  Before it, the scales are reordered within each run of eight columns, laid out with the columns of a run as rows,
  and each such block of eight rows is repeated once.  After it, the rows of the output are taken back to columns.
  Both reorderings are gathers at eight constant positions.
-/
module

public import proofs.«01_k».proof.Proof.Gen.KernelIdeal.Launch
public import proofs.«01_k».proof.Proof.Formula

@[expose] public section

set_option maxRecDepth 16384

noncomputable section

namespace Cert.KernelIdeal.Layout

open Idealize.ShloMosaic Idealize.ShloMosaic.TcCoe
open Cert.KernelIdeal Cert.KernelIdeal.Gen Cert.Formula

/-- A position below eight, read as a signed number and held within the array, is itself. -/
theorem clamp (p : Fin 8) : min (BitVec.ofNat 32 p.val).toInt.toNat 7 + 0 + 0 = p.val := by
  revert p; decide

/-- A gather along the last axis of a `140 × 640 × 8` array reads the position its index list names. -/
theorem gather_last {α : Type} (x : S140x640x8.Idx → α) (idx : IVec S8x1 32) (a : Fin 140) (b : Fin 640) (j p : Fin 8)
    (h : idx (ix2 j 0) = BitVec.ofNat 32 p.val) :
    Host.gather gather_S140x640x8_S8x1_S140x640x8_01_2_n_n_2_1_1406401 x idx (ix3 a b j) = x (ix3 a b p) := by
  unfold Host.gather
  congr 1
  funext a'
  refine Fin.ext ?_
  show GatherDims.start gather_S140x640x8_S8x1_S140x640x8_01_2_n_n_2_1_1406401 _ idx a' + GatherDims.batchCoord gather_S140x640x8_S8x1_S140x640x8_01_2_n_n_2_1_1406401 _ a' + GatherDims.offCoord gather_S140x640x8_S8x1_S140x640x8_01_2_n_n_2_1_1406401 _ a' = _
  rw [GatherDims.batchCoord_eq_zero _ _ _ List.not_mem_nil]
  match a' with
  | ⟨0, _⟩ =>
    unfold GatherDims.start GatherDims.offCoord
    rw [dif_neg (show ¬ (⟨0, by decide⟩ : Fin 3) ∈ (gather_S140x640x8_S8x1_S140x640x8_01_2_n_n_2_1_1406401).startIndexMap from by decide),
      dif_pos (show (⟨0, by decide⟩ : Fin 3) ∈ (gather_S140x640x8_S8x1_S140x640x8_01_2_n_n_2_1_1406401).sKept from by decide), Nat.zero_add]
    rfl
  | ⟨1, _⟩ =>
    unfold GatherDims.start GatherDims.offCoord
    rw [dif_neg (show ¬ (⟨1, by decide⟩ : Fin 3) ∈ (gather_S140x640x8_S8x1_S140x640x8_01_2_n_n_2_1_1406401).startIndexMap from by decide),
      dif_pos (show (⟨1, by decide⟩ : Fin 3) ∈ (gather_S140x640x8_S8x1_S140x640x8_01_2_n_n_2_1_1406401).sKept from by decide), Nat.zero_add]
    rfl
  | ⟨2, _⟩ =>
    rw [GatherDims.offCoord_eq_zero _ _ _ (fun h => ((GatherDims.mem_sKept _ _).mp h).1 (List.mem_singleton.mpr rfl))]
    unfold GatherDims.start
    rw [dif_pos (show (⟨2, by decide⟩ : Fin 3) ∈ (gather_S140x640x8_S8x1_S140x640x8_01_2_n_n_2_1_1406401).startIndexMap from List.mem_singleton.mpr rfl)]
    have e : (gather_S140x640x8_S8x1_S140x640x8_01_2_n_n_2_1_1406401).siIdx (ix3 a b j) ⟨List.idxOf (⟨2, by decide⟩ : Fin 3) (gather_S140x640x8_S8x1_S140x640x8_01_2_n_n_2_1_1406401).startIndexMap,
        List.idxOf_lt_length_iff.2 (List.mem_singleton.mpr rfl)⟩ = ix2 j 0 := by
      funext b'; refine Fin.ext ?_
      match b' with
      | ⟨0, _⟩ => rfl
      | ⟨1, _⟩ => rfl
    rw [e, h]
    exact clamp p

/-- A gather along the first axis of an `8 × 8 × 640` array reads the position its index list names. -/
theorem gather_first {α : Type} (x : S8x8x640.Idx → α) (idx : IVec S8x1 32) (j p a : Fin 8) (b : Fin 640)
    (h : idx (ix2 j 0) = BitVec.ofNat 32 p.val) :
    Host.gather gather_S8x8x640_S8x1_S8x8x640_12_0_n_n_0_1_18640 x idx (ix3 j a b) = x (ix3 p a b) := by
  unfold Host.gather
  congr 1
  funext a'
  refine Fin.ext ?_
  show GatherDims.start gather_S8x8x640_S8x1_S8x8x640_12_0_n_n_0_1_18640 _ idx a' + GatherDims.batchCoord gather_S8x8x640_S8x1_S8x8x640_12_0_n_n_0_1_18640 _ a' + GatherDims.offCoord gather_S8x8x640_S8x1_S8x8x640_12_0_n_n_0_1_18640 _ a' = _
  rw [GatherDims.batchCoord_eq_zero _ _ _ List.not_mem_nil]
  match a' with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (gather_S8x8x640_S8x1_S8x8x640_12_0_n_n_0_1_18640).startIndexMap from List.mem_singleton.mpr rfl)]
    have e : (gather_S8x8x640_S8x1_S8x8x640_12_0_n_n_0_1_18640).siIdx (ix3 j a b) ⟨List.idxOf (⟨0, by decide⟩ : Fin 3) (gather_S8x8x640_S8x1_S8x8x640_12_0_n_n_0_1_18640).startIndexMap,
        List.idxOf_lt_length_iff.2 (List.mem_singleton.mpr rfl)⟩ = ix2 j 0 := by
      funext b'; refine Fin.ext ?_
      match b' with
      | ⟨0, _⟩ => rfl
      | ⟨1, _⟩ => rfl
    rw [e, h]
    exact clamp p
  | ⟨1, _⟩ =>
    unfold GatherDims.start GatherDims.offCoord
    rw [dif_neg (show ¬ (⟨1, by decide⟩ : Fin 3) ∈ (gather_S8x8x640_S8x1_S8x8x640_12_0_n_n_0_1_18640).startIndexMap from by decide),
      dif_pos (show (⟨1, by decide⟩ : Fin 3) ∈ (gather_S8x8x640_S8x1_S8x8x640_12_0_n_n_0_1_18640).sKept from by decide), Nat.zero_add]
    rfl
  | ⟨2, _⟩ =>
    unfold GatherDims.start GatherDims.offCoord
    rw [dif_neg (show ¬ (⟨2, by decide⟩ : Fin 3) ∈ (gather_S8x8x640_S8x1_S8x8x640_12_0_n_n_0_1_18640).startIndexMap from by decide),
      dif_pos (show (⟨2, by decide⟩ : Fin 3) ∈ (gather_S8x8x640_S8x1_S8x8x640_12_0_n_n_0_1_18640).sKept from by decide), Nat.zero_add]
    rfl

/-- The index list of a gather at the eight constants `l`: a negative one would count from the end. -/
def positions (l : Fin 8 → BitVec 32) : IVec S8x1 32 :=
  broadcastInDim S8x1 ![0] bcast_S8_S8x1_0
    (select (cmpi .slt (fun i => l (S8.rowMajor i)) (broadcastInDim S8 ![] bcast_S_S8 (constantI S_ 32 0#32)))
      (addi (fun i => l (S8.rowMajor i)) (broadcastInDim S8 ![] bcast_S_S8 (constantI S_ 32 8#32))) (fun i => l (S8.rowMajor i)))

theorem positions_order (j : Fin 8) : positions lit0 (ix2 j 0) = BitVec.ofNat 32 (order j).val := by
  revert j; decide +kernel

theorem positions_field (j : Fin 8) : positions lit1 (ix2 j 0) = BitVec.ofNat 32 (field j).val := by
  revert j; decide +kernel

variable {F : FTy → Type} [FloatOps F]

/-- The scales as the kernel reads them. -/
def scalesIn (s : S140x5120.Idx → F .bf16) : S2240x640.Idx → F .bf16 :=
  shapeCast S2240x640 (concatenate S140x16x640 1
    [⟨S140x8x640, transpose S140x8x640 [0, 2, 1] (Host.gather gather_S140x640x8_S8x1_S140x640x8_01_2_n_n_2_1_1406401
      (shapeCast S140x640x8 s shapeCasts_S140x5120_S140x640x8) (positions lit0)) transposes_S140x640x8_S140x8x640_0_2_1⟩,
     ⟨S140x8x640, transpose S140x8x640 [0, 2, 1] (Host.gather gather_S140x640x8_S8x1_S140x640x8_01_2_n_n_2_1_1406401
      (shapeCast S140x640x8 s shapeCasts_S140x5120_S140x640x8) (positions lit0)) transposes_S140x640x8_S140x8x640_0_2_1⟩]
    concatenates_S140x8x640_S140x8x640_S140x16x640_d1) shapeCasts_S140x16x640_S2240x640

/-- Row `16 G + r` holds row `G` of the scales, at the columns that field `r % 8` belongs to. -/
theorem scalesIn_apply (s : S140x5120.Idx → F .bf16) (R : Fin 2240) (c : Fin 640) :
    scalesIn s (ix2 R c) = s (ix2 ⟨R.val / 16, by have := R.isLt; omega⟩
      ⟨8 * c.val + (order ⟨R.val % 8, Nat.mod_lt _ (by decide)⟩).val, by have := c.isLt; omega⟩) := by
  have h := R.isLt
  pointwise [scalesIn]
  split
  · rw [gather_last _ _ _ _ _ _ (positions_order _)]
    pointwise
    exact congrArg s (congrArg (ix2 _) (Fin.ext (by
      show c.val * 8 + (order ⟨R.val % 16, _⟩).val = 8 * c.val + (order ⟨R.val % 8, _⟩).val
      rw [show (⟨R.val % 16, ‹_›⟩ : Fin 8) = ⟨R.val % 8, Nat.mod_lt _ (by decide)⟩ from Fin.ext (by show R.val % 16 = R.val % 8; omega)]
      omega)))
  · rw [gather_last _ _ _ _ _ _ (positions_order _)]
    pointwise
    exact congrArg s (congrArg (ix2 _) (Fin.ext (by
      show c.val * 8 + (order ⟨R.val % 16 - 8, _⟩).val = 8 * c.val + (order ⟨R.val % 8, _⟩).val
      rw [show (⟨R.val % 16 - 8, by omega⟩ : Fin 8) = ⟨R.val % 8, Nat.mod_lt _ (by decide)⟩ from Fin.ext (by show R.val % 16 - 8 = R.val % 8; omega)]
      omega)))

/-- The result as the program returns it, from the kernel's output array. -/
def resultOut (y : S64x640.Idx → F .bf16) : S8x1x5120.Idx → F .bf16 :=
  shapeCast S8x1x5120 (transpose S8x640x8 [1, 2, 0] (Host.gather gather_S8x8x640_S8x1_S8x8x640_12_0_n_n_0_1_18640
    (shapeCast S8x8x640 y shapeCasts_S64x640_S8x8x640) (positions lit1)) transposes_S8x8x640_S8x640x8_1_2_0) shapeCasts_S8x640x8_S8x1x5120

/-- Column `C` of the result comes from the row of field `field (C % 8)`. -/
theorem resultOut_apply (y : S64x640.Idx → F .bf16) (b : Fin 8) (C : Fin 5120) :
    resultOut y (ix3 b 0 C) = y (ix2 ⟨8 * (field ⟨C.val % 8, Nat.mod_lt _ (by decide)⟩).val + b.val, by
      have := (field ⟨C.val % 8, Nat.mod_lt _ (by decide)⟩).isLt; have := b.isLt; omega⟩ ⟨C.val / 8, by have := C.isLt; omega⟩) := by
  have h := C.isLt
  pointwise [resultOut]
  rw [gather_first _ _ _ _ _ _ (positions_field _)]
  pointwise
  exact congrArg y (congrArg (ix2 · _) (Fin.ext (by
    show (field ⟨C.val % 8, _⟩).val * 8 + b.val = 8 * (field ⟨C.val % 8, _⟩).val + b.val
    omega)))

end Cert.KernelIdeal.Layout

end
-- ==== Proof.Blocks.lean ====
/-
  The blocks a grid point reads, in terms of the program's arguments.
-/
module

public import proofs.«01_k».proof.Proof.Gen.KernelIdeal.Frame
public import proofs.«01_k».proof.Proof.Layout
public import Idealize.ShloMosaic.Lib.StableHlo.RunRead

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Layout Cert.Formula

variable {F : FTy → Type} [FloatOps F]
variable (m : (ℓ : Loc nD τ sig) → Buf (Elt F) ℓ) (c : Dev nD)

/-- The four arguments as launched. -/
abbrev arg0 : S8x1x17920.Idx → F .bf16 := m ((c : Thread nD τ).loc main_arg0)
abbrev arg1 : S17920x640.Idx → BitVec 32 := m ((c : Thread nD τ).loc main_arg1)
abbrev arg2 : S140x640.Idx → BitVec 32 := m ((c : Thread nD τ).loc main_arg2)
abbrev arg3 : S140x5120.Idx → F .bf16 := m ((c : Thread nD τ).loc main_arg3)

/-- The kernel's `x` is the argument with its axis of extent one dropped. -/
theorem V_x : V m c main_v0 = shapeCast S8x17920 (arg0 m c) shapeCasts_S8x1x17920_S8x17920 := by
  unfold V V0 hostOps0
  after_results
  rfl

/-- The kernel's zero words are the argument's rows in ten runs of fourteen. -/
theorem V_z : V m c main_v12 = shapeCast S10x14x640 (arg2 m c) shapeCasts_S140x640_S10x14x640 := by
  unfold V V0 hostOps0
  after_results
  rfl

set_option maxHeartbeats 1000000 in
/-- The kernel's scales are the argument rearranged. -/
theorem V_s : V m c main_v11 = scalesIn (arg3 m c) := by
  unfold V V0 hostOps0
  after_reads_simp
  rfl

/-- Which block each point reads. -/
theorem index_x : ∀ t : Fin cfg0.N, win0_0.index t = ![0, t.val] := (by decide +kernel : ∀ t : Fin grid0.N, win0_0.index t = ![0, t.val])
theorem index_q : ∀ t : Fin cfg0.N, win0_1.index t = ![t.val, 0] := (by decide +kernel : ∀ t : Fin grid0.N, win0_1.index t = ![t.val, 0])
theorem index_z : ∀ t : Fin cfg0.N, win0_2.index t = ![t.val, 0, 0] := (by decide +kernel : ∀ t : Fin grid0.N, win0_2.index t = ![t.val, 0, 0])
theorem index_s : ∀ t : Fin cfg0.N, win0_3.index t = ![t.val, 0] := (by decide +kernel : ∀ t : Fin grid0.N, win0_3.index t = ![t.val, 0])

theorem point_lt (t : Fin cfg0.N) : t.val < 10 := lt_of_lt_of_eq t.isLt N_0

/-- Column `k` of point `t`'s block of `x`. -/
theorem blk_x (t : Fin cfg0.N) (b : Fin 8) (k : Fin 1792) :
    (iblk m c 0 t : S8x1792.Idx → F .bf16) (ix2 b k) = arg0 m c (ix3 b 0 ⟨1792 * t.val + k.val, by have := point_lt t; have := k.isLt; omega⟩) := by
  have ht := point_lt t
  have hk := k.isLt
  have e : (iblk m c 0 t : S8x1792.Idx → F .bf16) (ix2 b k) = V m c main_v0 (ix2 b ⟨1792 * t.val + k.val, by omega⟩) := by
    show V m c main_v0 (((cfg0.win 0).blk t).view.emb (ix2 b k)) = _
    refine congrArg (V m c main_v0) (funext fun a => Fin.ext ?_)
    match a with
    | ⟨0, _⟩ => show win0_0.index t 0 * 8 + 1 * b.val = b.val; rw [index_x]; show 0 * 8 + 1 * b.val = b.val; omega
    | ⟨1, _⟩ => show win0_0.index t 1 * 1792 + 1 * k.val = 1792 * t.val + k.val; rw [index_x]; show t.val * 1792 + 1 * k.val = _; omega
  rw [e, V_x]
  pointwise

/-- Row `k` of point `t`'s block of weight words. -/
theorem blk_q (t : Fin cfg0.N) (k : Fin 1792) (d : Fin 640) :
    (iblk m c 1 t : S1792x640.Idx → BitVec 32) (ix2 k d) = arg1 m c (ix2 ⟨1792 * t.val + k.val, by have := point_lt t; have := k.isLt; omega⟩ d) := by
  have ht := point_lt t
  have hk := k.isLt
  have e : (iblk m c 1 t : S1792x640.Idx → BitVec 32) (ix2 k d) = V m c main_arg1 (ix2 ⟨1792 * t.val + k.val, by omega⟩ d) := by
    show V m c main_arg1 (((cfg0.win 1).blk t).view.emb (ix2 k d)) = _
    refine congrArg (V m c main_arg1) (funext fun a => Fin.ext ?_)
    match a with
    | ⟨0, _⟩ => show win0_1.index t 0 * 1792 + 1 * k.val = 1792 * t.val + k.val; rw [index_q]; show t.val * 1792 + 1 * k.val = _; omega
    | ⟨1, _⟩ => show win0_1.index t 1 * 640 + 1 * d.val = d.val; rw [index_q]; show 0 * 640 + 1 * d.val = d.val; omega
  rw [e, V_main_arg1]

/-- Row `g` of point `t`'s block of zero words. -/
theorem blk_z (t : Fin cfg0.N) (g : Fin 14) (d : Fin 640) :
    (iblk m c 2 t : S1x14x640.Idx → BitVec 32) (ix3 0 g d) = arg2 m c (ix2 ⟨14 * t.val + g.val, by have := point_lt t; have := g.isLt; omega⟩ d) := by
  have ht := point_lt t
  have hg := g.isLt
  have e : (iblk m c 2 t : S1x14x640.Idx → BitVec 32) (ix3 0 g d) = V m c main_v12 (ix3 ⟨t.val, ht⟩ g d) := by
    show V m c main_v12 (((cfg0.win 2).blk t).view.emb (ix3 0 g d)) = _
    refine congrArg (V m c main_v12) (funext fun a => Fin.ext ?_)
    match a with
    | ⟨0, _⟩ => show win0_2.index t 0 * 1 + 1 * 0 = t.val; rw [index_z]; show t.val * 1 + 1 * 0 = _; omega
    | ⟨1, _⟩ => show win0_2.index t 1 * 14 + 1 * g.val = g.val; rw [index_z]; show 0 * 14 + 1 * g.val = g.val; omega
    | ⟨2, _⟩ => show win0_2.index t 2 * 640 + 1 * d.val = d.val; rw [index_z]; show 0 * 640 + 1 * d.val = d.val; omega
  rw [e, V_z]
  pointwise
  exact congrArg (arg2 m c) (congrArg (ix2 · d) (Fin.ext (by show t.val * 14 + g.val = 14 * t.val + g.val; omega)))

/-- Row `r` of point `t`'s block of scales. -/
theorem blk_s (t : Fin cfg0.N) (r : Fin 224) (d : Fin 640) :
    (iblk m c 3 t : S224x640.Idx → F .bf16) (ix2 r d) = arg3 m c (ix2 ⟨14 * t.val + r.val / 16, by have := point_lt t; have := r.isLt; omega⟩
      ⟨8 * d.val + (order ⟨r.val % 8, Nat.mod_lt _ (by decide)⟩).val, by have := d.isLt; omega⟩) := by
  have ht := point_lt t
  have hr := r.isLt
  have e : (iblk m c 3 t : S224x640.Idx → F .bf16) (ix2 r d) = V m c main_v11 (ix2 ⟨224 * t.val + r.val, by omega⟩ d) := by
    show V m c main_v11 (((cfg0.win 3).blk t).view.emb (ix2 r d)) = _
    refine congrArg (V m c main_v11) (funext fun a => Fin.ext ?_)
    match a with
    | ⟨0, _⟩ => show win0_3.index t 0 * 224 + 1 * r.val = 224 * t.val + r.val; rw [index_s]; show t.val * 224 + 1 * r.val = _; omega
    | ⟨1, _⟩ => show win0_3.index t 1 * 640 + 1 * d.val = d.val; rw [index_s]; show 0 * 640 + 1 * d.val = d.val; omega
  have e1 : (⟨(224 * t.val + r.val) % 8, Nat.mod_lt _ (by decide)⟩ : Fin 8) = ⟨r.val % 8, Nat.mod_lt _ (by decide)⟩ :=
    Fin.ext (by show (224 * t.val + r.val) % 8 = r.val % 8; omega)
  have e0 : (224 * t.val + r.val) / 16 = 14 * t.val + r.val / 16 := by omega
  rw [e, V_s, scalesIn_apply]
  exact congrArg (arg3 m c) (congrArg₂ ix2 (Fin.ext e0) (Fin.ext (by
    show 8 * d.val + (order ⟨(224 * t.val + r.val) % 8, _⟩).val = 8 * d.val + (order ⟨r.val % 8, _⟩).val
    rw [e1])))

end Cert.KernelIdeal.Blocks

end
-- ==== Proof.Final.lean ====
/-
  The kernel's output array at the end of the run: the output block of the last grid point, the only one written back.
-/
module

public import proofs.«01_k».proof.Proof.Gen.KernelIdeal.Frame
public import Idealize.ShloMosaic.Lib.Pipeline.Value

@[expose] public section

set_option maxRecDepth 16384

noncomputable section

namespace Cert.KernelIdeal.Final

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

theorem last_lt : 9 < cfg0.N := lt_of_lt_of_eq (by decide) N_0.symm

/-- The last grid point. -/
abbrev last : Fin cfg0.N := ⟨9, last_lt⟩

/-- The output block after the last point, as contents of the output array. -/
def result (c : Dev nD) : Buf (Elt F) ((c : Thread nD τ).loc main_v13) := (outsAt0 m c 9 last_lt).1

/-- The one write-back, after the last point, writes the output block. -/
theorem flushed_eq (c : Dev nD) (t : Fin cfg0.N) (hf : (cfg0.win 4).flush t = true) :
    (dats m 0 c).flushed 4 t = ((cfg0.win 4).blk t).view.read (Elt F) (result m c) := by
  have hN : cfg0.N = 10 := N_0
  have h9 : t.val = 9 := by have := (flush0_4 t).mp hf; have := t.isLt; omega
  obtain rfl : t = last := Fin.ext h9
  show (cfg0.win 4).cut (grid0.coords last) ((dats m 0 c).after 4 last) = _
  rw [after0_4]
  have hz : (fun a => win0_4.index last a * main_v13.ty.shape.size a) = fun _ => 0 :=
    funext fun a => by fin_cases a <;> decide +kernel
  exact (Memref.read_access_unit_zero (Elt F) main_v13 hz (fun a => by rw [congrFun hz a]; simp) (result m c)).symm

/-- The output array ends holding the output block of the last point. -/
theorem array_eq (c : Dev nD) : (dats m 0 c).arrAt 4 cfg0.N = result m c :=
  (dats m 0 c).arrAt_eq_of_cover 4 (result m c) (flushed_eq m c) fun i =>
    ⟨last, (flush0_4 last).mpr rfl, by
      show i ∈ ((View.whole main_v13).slice (win0_4.rect last)).set
      rw [View.set_slice_whole, Rect.mem_set_unit]
      intro a
      have h0 : (i 0 : Nat) < 64 := (i 0).isLt
      have h1 : (i 1 : Nat) < 640 := (i 1).isLt
      match a with
      | ⟨0, _⟩ => show win0_4.index last 0 * 64 ≤ (i 0 : Nat) ∧ (i 0 : Nat) < win0_4.index last 0 * 64 + 64
                  rw [show win0_4.index last 0 = 0 from by decide +kernel]; omega
      | ⟨1, _⟩ => show win0_4.index last 1 * 640 ≤ (i 1 : Nat) ∧ (i 1 : Nat) < win0_4.index last 1 * 640 + 640
                  rw [show win0_4.index last 1 = 0 from by decide +kernel]; omega⟩

end Cert.KernelIdeal.Final

end
-- ==== Proof.Value.lean ====
/-
  The kernel's result, in terms of its arguments.

  The ten points' fourteen groups of 128 rows are the 17920 rows in order, so the output array holds, at row
  `8 i + b`, row `b` of `x` times the weights of field `i`; the rearrangement after the kernel puts it at its column.
-/
module

public import proofs.«01_k».proof.Proof.Total
public import proofs.«01_k».proof.Proof.Blocks
public import proofs.«01_k».proof.Proof.Final

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Body Cert.KernelIdeal.Blocks Cert.KernelIdeal.Layout Cert.Formula Cert.Words

local notation "𝕀" => Idealize.ShloMosaic.Ideal

variable (m : (ℓ : Loc nD τ sig) → Buf (Elt 𝕀) ℓ) (ρ : Dev nD → PrngReg)

/-- One term of the product, at any row number. -/
def termAt (c : Dev nD) (b i : Fin 8) (d : Fin 640) (k : Nat) : EReal :=
  if h : k < 17920 then
    arg0 m c (ix3 b 0 ⟨k, h⟩) *
      weight (arg1 m c (ix2 ⟨k, h⟩ d)) (arg2 m c (ix2 ⟨k / 128, by omega⟩ d)) i
        (arg3 m c (ix2 ⟨k / 128, by omega⟩ ⟨8 * d.val + (order i).val, by have := d.isLt; omega⟩))
  else 0

/-- What point `t` adds at row `8 i + b`: the terms of its 1792 rows. -/
theorem added_apply (c : Dev nD) (t : Fin 10) (r : Fin 64) (b i : Fin 8) (hr : r.val = 8 * i.val + b.val) (d : Fin 640) :
    added m c (ix2 r d) t.val = ∑ g : Fin 14, ∑ k : Fin 128, termAt m c b i d (1792 * t.val + (128 * g.val + k.val)) := by
  have hN : cfg0.N = 10 := N_0
  have ht := t.isLt
  unfold added
  rw [dif_pos (by omega)]
  refine (total_apply _ _ _ _ r b i hr d).trans (Finset.sum_congr rfl fun g _ => Finset.sum_congr rfl fun k _ => ?_)
  have hg := g.isLt
  have hk := k.isLt
  have hi := i.isLt
  have hK : (1792 * t.val + (128 * g.val + k.val)) / 128 = 14 * t.val + g.val := by omega
  have hS : 14 * t.val + (16 * g.val + (8 * k.val + i.val) % 16) / 16 = 14 * t.val + g.val := by omega
  have hi8 : (⟨(16 * g.val + (8 * k.val + i.val) % 16) % 8, Nat.mod_lt _ (by decide)⟩ : Fin 8) = i :=
    Fin.ext (by show (16 * g.val + (8 * k.val + i.val) % 16) % 8 = i.val; omega)
  unfold termAt
  rw [dif_pos (by omega), blk_x, blk_q, blk_z, blk_s]
  simp only [hK, hS, hi8]

/-- The output array at row `8 i + b`. -/
theorem result_apply (c : Dev nD) (r : Fin 64) (b i : Fin 8) (hr : r.val = 8 * i.val + b.val) (d : Fin 640) :
    (Final.result m c (ix2 r d) : EReal) = product (arg0 m c) (arg1 m c) (arg2 m c) (arg3 m c) b i d (order i) := by
  have e : (Final.result m c (ix2 r d) : EReal) = ∑ t : Fin 10, added m c (ix2 r d) t.val := out_eq m c (ix2 r d) Final.last_lt
  exact e.trans ((Finset.sum_congr rfl fun t _ => (added_apply m c t r b i hr d).trans
    (sum_runs 14 128 1792 rfl (fun n => termAt m c b i d (1792 * t.val + n)))).trans
    ((sum_runs 10 1792 17920 rfl (termAt m c b i d)).trans (Finset.sum_congr rfl fun k _ => dif_pos k.isLt)))

/-- What the program returns: the product, each column from its field. -/
def returned (c : Dev nD) : S8x1x5120.Idx → EReal := fun j =>
  product (arg0 m c) (arg1 m c) (arg2 m c) (arg3 m c) (j 0) (field ⟨(j 2).val % 8, Nat.mod_lt _ (by decide)⟩)
    ⟨(j 2).val / 8, by have h : (j 2).val < 5120 := (j 2).isLt; omega⟩ ⟨(j 2).val % 8, Nat.mod_lt _ (by decide)⟩

theorem resultOut_eq (c : Dev nD) : resultOut (F := 𝕀) (Final.result m c) = returned m c := by
  funext j
  obtain ⟨b, C, rfl⟩ : ∃ b C, j = ix3 b 0 C := ⟨j 0, j 2, by
    rw [show (0 : Fin 1) = j 1 from Subsingleton.elim _ _]; exact eq_ix3 j⟩
  rw [resultOut_apply, result_apply m c _ b _ rfl, order_field]
  rfl

/-- The lines after the kernel rearrange its output array. -/
theorem tail_eq (c : Dev nD) : Pipeline.afterTail₀ cfgs (dats m) 0 (V0 m) [hostOps1] c main_v23 = resultOut (F := 𝕀) (Final.result m c) := by
  have hv : Pipeline.withArrays (cfgs 0).spec c (V0 m c) (fun w => (dats m 0 c).arrAt w (cfgs 0).N) (Proc.devRef .tc main_v13) = Final.result m c :=
    (Pipeline.withArrays_arr (cfgs 0).spec (by decide) c (V0 m c) _ 4).trans (Final.array_eq m c)
  have hc : Pipeline.withArrays (cfgs 0).spec c (V0 m c) (fun w => (dats m 0 c).arrAt w (cfgs 0).N) (Proc.devRef .tc main_c_0) = fun i => lit1 (S8.rowMajor i) := by
    rw [Pipeline.withArrays_of_ne _ c (V0 m c) _ main_c_0 (by exact (by decide : ∀ w, Pipeline.arrRef spec0 w ≠ main_c_0))]
    unfold V0 hostOps0
    after_reads_simp
    rfl
  unfold Pipeline.afterTail₀ hostOps1
  after_reads_simp
  rw [hv, hc]
  rfl

/-- The run: the result is the product, the arguments are unchanged. -/
theorem run : θ_run defs (onTc (τ := τ) (main (F := 𝕀))) ⟨m, fun _ => 0, ρ⟩ fun r => ∀ c : Dev nD,
      r.2.mem ((c : Thread nD τ).loc main_v23) = returned m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v23 (Pipeline.mem_restRefs_of main_v23 (by decide) (by decide))).trans ((tail_eq m c).trans (resultOut_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.Reference.lean ====
/-
  The reference's result, in terms of its arguments.

  For each column `j` of a run of eight the reference takes field `field j` of every word, forms the weights and
  multiplies; it then puts the eight products side by side.
-/
module

public import proofs.«01_k».proof.Proof.Gen.ReferenceIdeal.Run
public import proofs.«01_k».proof.Proof.Formula

@[expose] public section

set_option maxRecDepth 16384

noncomputable section

namespace Cert.ReferenceIdeal.Columns

open Idealize.ShloMosaic Idealize.ShloMosaic.TcCoe Idealize.SL.Sem Idealize.ShloMosaic.StableHlo
open Cert.ReferenceIdeal Cert.ReferenceIdeal.Gen Cert.Formula Cert.Words

local notation "𝕀" => Idealize.ShloMosaic.Ideal

variable {F : FTy → Type} [FloatOps F]

/-- The product for one column of a run: the words shifted right by `a`, the scales from column `o` on. -/
def column (x : S8x1x17920.Idx → F .bf16) (q : IVec S17920x640 32) (z : IVec S140x640 32) (s : S140x5120.Idx → F .bf16)
    (a : BitVec 32) (o : Nat) (h : S140x5120.SlicesBy ![0, o] ![1, 8] S140x640) : S8x1x640x1.Idx → F .f32 :=
  broadcastInDim S8x1x640x1 ![0, 1, 2] bcast_S8x1x640_S8x1x640x1_0_1_2
    (Host.dotGeneral dot_S8x1x17920_S17920x640_S8x1x640_2_0_01_1_n_n none x
      (shapeCast S17920x640
        (mulf
          (subf
            (shapeCast S140x128x640
              (sitofp .bf16 (andi (Host.shrsi q (broadcastInDim S17920x640 ![] bcast_S_S17920x640 (constantI S_ 32 a)))
                (broadcastInDim S17920x640 ![] bcast_S_S17920x640 (constantI S_ 32 15#32))))
              shapeCasts_S17920x640_S140x128x640)
            (broadcastInDim S140x128x640 ![0, 1, 2] bcast_S140x1x640_S140x128x640_0_1_2
              (broadcastInDim S140x1x640 ![0, 2] bcast_S140x640_S140x1x640_0_2
                (sitofp .bf16 (andi (Host.shrsi z (broadcastInDim S140x640 ![] bcast_S_S140x640 (constantI S_ 32 a)))
                  (broadcastInDim S140x640 ![] bcast_S_S140x640 (constantI S_ 32 15#32)))))))
          (broadcastInDim S140x128x640 ![0, 1, 2] bcast_S140x1x640_S140x128x640_0_1_2
            (broadcastInDim S140x1x640 ![0, 2] bcast_S140x640_S140x1x640_0_2
              (Host.slice S140x640 ![0, o] ![1, 8] s h))))
        shapeCasts_S140x128x640_S17920x640))

/-- The reference's result before it is rounded: the eight products side by side. -/
theorem pieces_eq (V0 : Valuation τ sig (Elt F)) : Value.res_main_v168 V0 =
    Value.fn_main_v168
      (column (V0 (Proc.devRef .tc main_arg0)) (V0 (Proc.devRef .tc main_arg1)) (V0 (Proc.devRef .tc main_arg2)) (V0 (Proc.devRef .tc main_arg3)) 0#32 0 slicesBy_S140x5120_S140x640_0s1_0s8)
      (column (V0 (Proc.devRef .tc main_arg0)) (V0 (Proc.devRef .tc main_arg1)) (V0 (Proc.devRef .tc main_arg2)) (V0 (Proc.devRef .tc main_arg3)) 16#32 1 slicesBy_S140x5120_S140x640_0s1_1s8)
      (column (V0 (Proc.devRef .tc main_arg0)) (V0 (Proc.devRef .tc main_arg1)) (V0 (Proc.devRef .tc main_arg2)) (V0 (Proc.devRef .tc main_arg3)) 4#32 2 slicesBy_S140x5120_S140x640_0s1_2s8)
      (column (V0 (Proc.devRef .tc main_arg0)) (V0 (Proc.devRef .tc main_arg1)) (V0 (Proc.devRef .tc main_arg2)) (V0 (Proc.devRef .tc main_arg3)) 20#32 3 slicesBy_S140x5120_S140x640_0s1_3s8)
      (column (V0 (Proc.devRef .tc main_arg0)) (V0 (Proc.devRef .tc main_arg1)) (V0 (Proc.devRef .tc main_arg2)) (V0 (Proc.devRef .tc main_arg3)) 8#32 4 slicesBy_S140x5120_S140x640_0s1_4s8)
      (column (V0 (Proc.devRef .tc main_arg0)) (V0 (Proc.devRef .tc main_arg1)) (V0 (Proc.devRef .tc main_arg2)) (V0 (Proc.devRef .tc main_arg3)) 24#32 5 slicesBy_S140x5120_S140x640_0s1_5s8)
      (column (V0 (Proc.devRef .tc main_arg0)) (V0 (Proc.devRef .tc main_arg1)) (V0 (Proc.devRef .tc main_arg2)) (V0 (Proc.devRef .tc main_arg3)) 12#32 6 slicesBy_S140x5120_S140x640_0s1_6s8)
      (column (V0 (Proc.devRef .tc main_arg0)) (V0 (Proc.devRef .tc main_arg1)) (V0 (Proc.devRef .tc main_arg2)) (V0 (Proc.devRef .tc main_arg3)) 28#32 7 slicesBy_S140x5120_S140x640_0s1_7s8) := rfl

/-- One product, element by element. -/
theorem column_apply (x : S8x1x17920.Idx → 𝕀 .bf16) (q : IVec S17920x640 32) (z : IVec S140x640 32) (s : S140x5120.Idx → 𝕀 .bf16)
    (i j : Fin 8) (h : S140x5120.SlicesBy ![0, j.val] ![1, 8] S140x640) (b : Fin 8) (c : Fin 640) :
    (column (F := 𝕀) x q z s (BitVec.ofNat 32 (4 * i.val)) j.val h (ix4 b 0 c 0) : EReal) = product x q z s b i c j := by
  unfold product weight
  pointwise [column]
  refine Finset.sum_congr rfl fun k _ => ?_
  rw [host_nib, host_nib]
  simp only [Nat.add_comm j.val]

/-- Eight arrays side by side along a new last axis, element by element. -/
theorem beside_apply (u : Fin 8 → S8x1x640x1.Idx → F .f32) (b : Fin 8) (c : Fin 640) (j : Fin 8) :
    (Value.fn_main_v168 (u 0) (u 1) (u 2) (u 3) (u 4) (u 5) (u 6) (u 7) : S8x1x640x8.Idx → F .f32) (ix4 b 0 c j) = u j (ix4 b 0 c 0) := by
  unfold Value.fn_main_v168
  fin_cases j <;> pointwise

/-- The scale columns `j, j + 8, …` lie within the array. -/
theorem slices (j : Fin 8) : S140x5120.SlicesBy ![0, j.val] ![1, 8] S140x640 := by
  revert j; decide

variable (m : (ℓ : Loc nD τ sig) → Buf (Elt 𝕀) ℓ) (ρ : Dev nD → PrngReg)

/-- The four arguments as launched. -/
abbrev arg0 (c : Dev nD) : S8x1x17920.Idx → EReal := m ((c : Thread nD τ).loc main_arg0)
abbrev arg1 (c : Dev nD) : S17920x640.Idx → BitVec 32 := m ((c : Thread nD τ).loc main_arg1)
abbrev arg2 (c : Dev nD) : S140x640.Idx → BitVec 32 := m ((c : Thread nD τ).loc main_arg2)
abbrev arg3 (c : Dev nD) : S140x5120.Idx → EReal := m ((c : Thread nD τ).loc main_arg3)

/-- Element `(b, 0, C)` of the reference's result. -/
theorem result_apply (d : Dev nD) (b : Fin 8) (C : Fin 5120) :
    (truncf .bf16 (shapeCast S8x1x5120 (Value.res_main_v168 (launchContents m d)) shapeCasts_S8x1x640x8_S8x1x5120) bitsLt_bf16_f32 : FVec 𝕀 S8x1x5120 .bf16) (ix3 b 0 C)
      = product (arg0 m d) (arg1 m d) (arg2 m d) (arg3 m d) b (field ⟨C.val % 8, Nat.mod_lt _ (by decide)⟩)
        ⟨C.val / 8, by have := C.isLt; omega⟩ ⟨C.val % 8, Nat.mod_lt _ (by decide)⟩ := by
  have hC := C.isLt
  rw [pieces_eq]
  pointwise
  exact (beside_apply (fun j => column (F := 𝕀) (arg0 m d) (arg1 m d) (arg2 m d) (arg3 m d) (BitVec.ofNat 32 (4 * (field j).val)) j.val (slices j)) b _ _).trans
    (column_apply (arg0 m d) (arg1 m d) (arg2 m d) (arg3 m d) _ _ _ b _)

/-- The run: the result is the product, each column from its field; the arguments are unchanged. -/
theorem run : θ_run defs (onTc (τ := τ) (main (F := 𝕀))) ⟨m, fun _ => 0, ρ⟩ fun r => ∀ c : Dev nD,
      r.2.mem ((c.tc : Thread nD τ).loc main_v170) = (fun j : S8x1x5120.Idx =>
        product (arg0 m c) (arg1 m c) (arg2 m c) (arg3 m c) (j 0) (field ⟨(j 2).val % 8, Nat.mod_lt _ (by decide)⟩)
          ⟨(j 2).val / 8, by have h : (j 2).val < 5120 := (j 2).isLt; omega⟩ ⟨(j 2).val % 8, Nat.mod_lt _ (by decide)⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun j => by
      obtain ⟨b, C, rfl⟩ : ∃ b C, j = ix3 b 0 C := ⟨j 0, j 2, by
        rw [show (0 : Fin 1) = j 1 from Subsingleton.elim _ _]; exact eq_ix3 j⟩
      exact result_apply m c b C), (h c).2⟩)
    (Value.run m ρ)

end Cert.ReferenceIdeal.Columns

end
-- ==== Proof.lean ====
/-
  The proof of `Cert.Claim`.

  Both programs return, at `(b, 0, 8 c + j)`, the sum over the 17920 rows `k` of `x[b, 0, k]` times the weight that
  field `field j` of word `(k, c)` stands for (`Cert.Formula.product`).  `Proof/Value.lean` shows it of the kernel,
  `Proof/Reference.lean` of the reference; this module puts the claims together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The kernel runs on hardware values, and returns with its arguments and every semaphore as they were. -/
theorem frame_Kernel : Cert.quiescent_Kernel (hKernel := Cert.Kernel.Gen.facts) := fun m ρ _ => Cert.Kernel.Gen.frame m ρ

/-- The same of the kernel over the extended reals. -/
theorem frame_KernelIdeal : Cert.quiescent_KernelIdeal (hKernelIdeal := Cert.KernelIdeal.Gen.facts) := fun m ρ _ =>
  Cert.KernelIdeal.Gen.frame m ρ

/-- The same of the reference over the extended reals. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference return the same array. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.KernelIdeal.Value.returned m, Cert.KernelIdeal.Value.run m g, ?_⟩
  refine (θ_run Cert.ReferenceIdeal.defs _ _).mono (fun r h c => ⟨(h c).1.trans ?_, (h c).2⟩) (Cert.ReferenceIdeal.Columns.run m' g')
  obtain ⟨h0, h1, h2, h3⟩ := hargs c
  unfold Cert.KernelIdeal.Value.returned Cert.ReferenceIdeal.Columns.arg0 Cert.ReferenceIdeal.Columns.arg1
    Cert.ReferenceIdeal.Columns.arg2 Cert.ReferenceIdeal.Columns.arg3
  rw [h0, h1, h2, h3]

/-- Every claim of the certificate. -/
theorem claim : Cert.Claim :=
  ⟨Cert.Kernel.Gen.facts, Cert.KernelIdeal.Gen.facts, Cert.ReferenceIdeal.Gen.facts,
    frame_Kernel, frame_KernelIdeal, frame_ReferenceIdeal, trivial, algebraic⟩

end Cert.Proof

end
